-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_products_bounded_KernelIdeal [hPre_products_bounded_KernelIdeal : Cert.Pre_products_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_products_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_products_bounded_ClippedIdeal [hPre_products_bounded_ClippedIdeal : Cert.Pre_products_bounded_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_products_bounded_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_products_bounded_KernelIdeal [hKernelIdeal : Cert.KernelIdeal.Facts] [hPre_products_bounded_KernelIdeal : Cert.Pre_products_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_products_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_products_bounded_ClippedIdeal [hClippedIdeal : Cert.ClippedIdeal.Facts] [hPre_products_bounded_ClippedIdeal : Cert.Pre_products_bounded_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_products_bounded_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_products_bounded_KernelIdeal [hKernelIdeal : Cert.KernelIdeal.Facts] [hClippedIdeal : Cert.ClippedIdeal.Facts] [hPre_products_bounded_KernelIdeal : Cert.Pre_products_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_products_bounded_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v6) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_products_bounded_KernelIdeal : Cert.Pre_products_bounded_KernelIdeal.Facts) (hPre_products_bounded_ClippedIdeal : Cert.Pre_products_bounded_ClippedIdeal.Facts),
    quiescent_Kernel (hKernel := hKernel)
    ∧ quiescent_KernelIdeal (hKernelIdeal := hKernelIdeal)
    ∧ quiescent_KernelIdeal_pre_products_bounded_KernelIdeal (hKernelIdeal := hKernelIdeal) (hPre_products_bounded_KernelIdeal := hPre_products_bounded_KernelIdeal)
    ∧ quiescent_ReferenceIdeal (hReferenceIdeal := hReferenceIdeal)
    ∧ quiescent_ClippedIdeal (hClippedIdeal := hClippedIdeal)
    ∧ quiescent_ClippedIdeal_pre_products_bounded_ClippedIdeal (hClippedIdeal := hClippedIdeal) (hPre_products_bounded_ClippedIdeal := hPre_products_bounded_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_products_bounded_KernelIdeal (hKernelIdeal := hKernelIdeal) (hClippedIdeal := hClippedIdeal) (hPre_products_bounded_KernelIdeal := hPre_products_bounded_KernelIdeal)
-- ==== Pre_products_bounded_ClippedIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S_ 1 :=
  let main_v0 : FVec F S2048x2048 .f32 := Host.absf main_arg0
  let main_v1 : FVec F S2048x2048 .f32 := Host.absf main_arg1
  let main_v2 : FVec F S2048x2048 .f32 := (fun l r => Host.dotGeneral dot_S2048x2048_S2048x2048_S2048x2048_1_0_0_1_n_n none l r) main_v0 main_v1
  let main_cst : FVec F S_ .f32 := constant S_ .f32 0x40F00000#32
  let main_v3 : FVec F S2048x2048 .f32 := broadcastInDim S2048x2048 ![] bcast_S_S2048x2048 main_cst
  let main_v4 : IVec S2048x2048 1 := cmpf .ole main_v2 main_v3
  let main_c : IVec S_ 1 := constantI S_ 1 1#1
  let main_v5 : IVec S_ 1 := (fun x v => Host.reduce IntOp.andi x v reducesTo_S2048x2048_S_d0_1 h_S_) main_v4 main_c
  main_v5
-- ==== Pre_products_bounded_KernelIdeal.lean ====
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x256_S256x2048_S2048x2048_1_0_0_1_n_n_wf : DotDims.WF S2048x256 S256x2048 S2048x2048 [1] [0] [0] [1] [] []

variable [Facts]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def fn {F : FTy → Type} [FloatOps F] (main_arg0 : FVec F S2048x256 .f32) (main_arg1 : FVec F S256x2048 .f32) : IVec S_ 1 :=
  let main_v0 : FVec F S2048x256 .f32 := Host.absf main_arg0
  let main_v1 : FVec F S256x2048 .f32 := Host.absf main_arg1
  let main_v2 : FVec F S2048x2048 .f32 := (fun l r => Host.dotGeneral dot_S2048x256_S256x2048_S2048x2048_1_0_0_1_n_n none l r) main_v0 main_v1
  let main_cst : FVec F S_ .f32 := constant S_ .f32 0x40F00000#32
  let main_v3 : FVec F S2048x2048 .f32 := broadcastInDim S2048x2048 ![] bcast_S_S2048x2048 main_cst
  let main_v4 : IVec S2048x2048 1 := cmpf .ole main_v2 main_v3
  let main_c : IVec S_ 1 := constantI S_ 1 1#1
  let main_v5 : IVec S_ 1 := (fun x v => Host.reduce IntOp.andi x v reducesTo_S2048x2048_S_d0_1 h_S_) main_v4 main_c
  main_v5
-- ==== Kernel.lean ====
abbrev S2048x256 : Shape := ⟨2, ![2048, 256]⟩
abbrev S256x2048 : Shape := ⟨2, ![256, 2048]⟩
abbrev S1024x384 : Shape := ⟨2, ![1024, 384]⟩
abbrev S512x384 : Shape := ⟨2, ![512, 384]⟩
abbrev S256x384 : Shape := ⟨2, ![256, 384]⟩
abbrev S7 : Shape := ⟨1, ![7]⟩
abbrev S1024x320 : Shape := ⟨2, ![1024, 320]⟩
abbrev S512x320 : Shape := ⟨2, ![512, 320]⟩
abbrev S256x320 : Shape := ⟨2, ![256, 320]⟩
abbrev S1024x256 : Shape := ⟨2, ![1024, 256]⟩
abbrev S512x256 : Shape := ⟨2, ![512, 256]⟩
abbrev S256x256 : Shape := ⟨2, ![256, 256]⟩
abbrev S_ : Shape := ⟨0, ![]⟩
abbrev S1 : Shape := ⟨1, ![1]⟩

abbrev nBuf : Space → Nat
  | .hbm => 3
  | .vmem => 41
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S256x2048, .f32⟩
  | .local _ .vmem, ⟨0, _⟩ => ⟨S2048x256, .f32⟩
  | .local _ .vmem, ⟨1, _⟩ => ⟨S256x2048, .f32⟩
  | .local _ .vmem, ⟨2, _⟩ => ⟨S256x2048, .f32⟩
  | .local _ .vmem, ⟨3, _⟩ => ⟨S2048x256, .bf16⟩
  | .local _ .vmem, ⟨4, _⟩ => ⟨S256x2048, .bf16⟩
  | .local _ .vmem, ⟨5, _⟩ => ⟨S1024x384, .bf16⟩
  | .local _ .vmem, ⟨6, _⟩ => ⟨S1024x384, .bf16⟩
  | .local _ .vmem, ⟨7, _⟩ => ⟨S512x384, .bf16⟩
  | .local _ .vmem, ⟨8, _⟩ => ⟨S512x384, .bf16⟩
  | .local _ .vmem, ⟨9, _⟩ => ⟨S256x384, .bf16⟩
  | .local _ .vmem, ⟨10, _⟩ => ⟨S256x384, .bf16⟩
  | .local _ .vmem, ⟨11, _⟩ => ⟨S1024x384, .bf16⟩
  | .local _ .vmem, ⟨12, _⟩ => ⟨S1024x384, .bf16⟩
  | .local _ .vmem, ⟨13, _⟩ => ⟨S512x384, .bf16⟩
  | .local _ .vmem, ⟨14, _⟩ => ⟨S512x384, .bf16⟩
  | .local _ .vmem, ⟨15, _⟩ => ⟨S256x384, .bf16⟩
  | .local _ .vmem, ⟨16, _⟩ => ⟨S256x384, .bf16⟩
  | .local _ .vmem, ⟨17, _⟩ => ⟨S1024x384, .bf16⟩
  | .local _ .vmem, ⟨18, _⟩ => ⟨S1024x384, .bf16⟩
  | .local _ .vmem, ⟨19, _⟩ => ⟨S512x384, .bf16⟩
  | .local _ .vmem, ⟨20, _⟩ => ⟨S512x384, .bf16⟩
  | .local _ .vmem, ⟨21, _⟩ => ⟨S256x384, .bf16⟩
  | .local _ .vmem, ⟨22, _⟩ => ⟨S256x384, .bf16⟩
  | .local _ .vmem, ⟨23, _⟩ => ⟨S1024x320, .bf16⟩
  | .local _ .vmem, ⟨24, _⟩ => ⟨S1024x320, .bf16⟩
  | .local _ .vmem, ⟨25, _⟩ => ⟨S512x320, .bf16⟩
  | .local _ .vmem, ⟨26, _⟩ => ⟨S512x320, .bf16⟩
  | .local _ .vmem, ⟨27, _⟩ => ⟨S256x320, .bf16⟩
  | .local _ .vmem, ⟨28, _⟩ => ⟨S256x320, .bf16⟩
  | .local _ .vmem, ⟨29, _⟩ => ⟨S1024x256, .bf16⟩
  | .local _ .vmem, ⟨30, _⟩ => ⟨S1024x256, .bf16⟩
  | .local _ .vmem, ⟨31, _⟩ => ⟨S512x256, .bf16⟩
  | .local _ .vmem, ⟨32, _⟩ => ⟨S512x256, .bf16⟩
  | .local _ .vmem, ⟨33, _⟩ => ⟨S256x256, .bf16⟩
  | .local _ .vmem, ⟨34, _⟩ => ⟨S256x256, .bf16⟩
  | .local _ .vmem, ⟨35, _⟩ => ⟨S1024x320, .bf16⟩
  | .local _ .vmem, ⟨36, _⟩ => ⟨S1024x320, .bf16⟩
  | .local _ .vmem, ⟨37, _⟩ => ⟨S512x320, .bf16⟩
  | .local _ .vmem, ⟨38, _⟩ => ⟨S512x320, .bf16⟩
  | .local _ .vmem, ⟨39, _⟩ => ⟨S256x320, .bf16⟩
  | .local _ .vmem, ⟨40, _⟩ => ⟨S256x320, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch18 : Ref sig .tc := ⟨.vmem, 17, rfl⟩
abbrev cc0_scratch19 : Ref sig .tc := ⟨.vmem, 18, rfl⟩
abbrev cc0_scratch20 : Ref sig .tc := ⟨.vmem, 19, rfl⟩
abbrev cc0_scratch21 : Ref sig .tc := ⟨.vmem, 20, rfl⟩
abbrev cc0_scratch22 : Ref sig .tc := ⟨.vmem, 21, rfl⟩
abbrev cc0_scratch23 : Ref sig .tc := ⟨.vmem, 22, rfl⟩
abbrev cc0_scratch26 : Ref sig .tc := ⟨.vmem, 23, rfl⟩
abbrev cc0_scratch27 : Ref sig .tc := ⟨.vmem, 24, rfl⟩
abbrev cc0_scratch28 : Ref sig .tc := ⟨.vmem, 25, rfl⟩
abbrev cc0_scratch29 : Ref sig .tc := ⟨.vmem, 26, rfl⟩
abbrev cc0_scratch30 : Ref sig .tc := ⟨.vmem, 27, rfl⟩
abbrev cc0_scratch31 : Ref sig .tc := ⟨.vmem, 28, rfl⟩
abbrev cc0_scratch34 : Ref sig .tc := ⟨.vmem, 29, rfl⟩
abbrev cc0_scratch35 : Ref sig .tc := ⟨.vmem, 30, rfl⟩
abbrev cc0_scratch36 : Ref sig .tc := ⟨.vmem, 31, rfl⟩
abbrev cc0_scratch37 : Ref sig .tc := ⟨.vmem, 32, rfl⟩
abbrev cc0_scratch38 : Ref sig .tc := ⟨.vmem, 33, rfl⟩
abbrev cc0_scratch39 : Ref sig .tc := ⟨.vmem, 34, rfl⟩
abbrev cc0_scratch42 : Ref sig .tc := ⟨.vmem, 35, rfl⟩
abbrev cc0_scratch43 : Ref sig .tc := ⟨.vmem, 36, rfl⟩
abbrev cc0_scratch44 : Ref sig .tc := ⟨.vmem, 37, rfl⟩
abbrev cc0_scratch45 : Ref sig .tc := ⟨.vmem, 38, rfl⟩
abbrev cc0_scratch46 : Ref sig .tc := ⟨.vmem, 39, rfl⟩
abbrev cc0_scratch47 : Ref sig .tc := ⟨.vmem, 40, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_28 : BitVec 32 := 0#32
  let c4_i32_24 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v60 : BitVec 32 := Scalar.muli c4_i32_24 v57
  let c2_i32_25 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v61 : BitVec 32 := Scalar.muli c2_i32_25 v29
  let v62 : BitVec 32 := Scalar.addi v60 v61
  let c1_i32_23 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v59 : BitVec 32 := Scalar.subi c1_i32_23 v40
  let v63 : BitVec 32 := Scalar.xori v59 v29
  let v64 : BitVec 32 := Scalar.addi v62 v63
  let c1_i32_27 : BitVec 32 := 1#32
  let v65 : BitVec 32 := Scalar.muli v64 c1_i32_27
  let v66 : BitVec 32 := Scalar.addi c0_i32_28 v65
  v66.toNat
def k0_dev2 (d0 : Dev nD) : Nat :=
  let c0_i32_34 : BitVec 32 := 0#32
  let c4_i32_30 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v68 : BitVec 32 := Scalar.muli c4_i32_30 v57
  let c2_i32_31 : BitVec 32 := 2#32
  let c1_i32_29 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v67 : BitVec 32 := Scalar.subi c1_i32_29 v29
  let v69 : BitVec 32 := Scalar.muli c2_i32_31 v67
  let v70 : BitVec 32 := Scalar.addi v68 v69
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v71 : BitVec 32 := Scalar.xori v40 v67
  let v72 : BitVec 32 := Scalar.addi v70 v71
  let c1_i32_33 : BitVec 32 := 1#32
  let v73 : BitVec 32 := Scalar.muli v72 c1_i32_33
  let v74 : BitVec 32 := Scalar.addi c0_i32_34 v73
  v74.toNat
def k0_dev3 (d0 : Dev nD) : Nat :=
  let c0_i32_40 : BitVec 32 := 0#32
  let c4_i32_36 : BitVec 32 := 4#32
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v75 : BitVec 32 := Scalar.subi c1_i32_35 v57
  let v76 : BitVec 32 := Scalar.muli c4_i32_36 v75
  let c2_i32_37 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v77 : BitVec 32 := Scalar.muli c2_i32_37 v29
  let v78 : BitVec 32 := Scalar.addi v76 v77
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v79 : BitVec 32 := Scalar.xori v40 v29
  let v80 : BitVec 32 := Scalar.addi v78 v79
  let c1_i32_39 : BitVec 32 := 1#32
  let v81 : BitVec 32 := Scalar.muli v80 c1_i32_39
  let v82 : BitVec 32 := Scalar.addi c0_i32_40 v81
  v82.toNat
def k0_off1 (d0 : Dev nD) : Fin 2 → Nat :=
  let c4_i32_51 : BitVec 32 := 4#32
  let c1_i32_50 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v97 : BitVec 32 := Scalar.subi c1_i32_50 v57
  let v98 : BitVec 32 := Scalar.muli c4_i32_51 v97
  let c2_i32_52 : BitVec 32 := 2#32
  let c1_i32_48 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v95 : BitVec 32 := Scalar.subi c1_i32_48 v29
  let v99 : BitVec 32 := Scalar.muli c2_i32_52 v95
  let v100 : BitVec 32 := Scalar.addi v98 v99
  let c1_i32_49 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v96 : BitVec 32 := Scalar.subi c1_i32_49 v40
  let v101 : BitVec 32 := Scalar.xori v96 v95
  let v102 : BitVec 32 := Scalar.addi v100 v101
  let c256_i32 : BitVec 32 := 256#32
  let v103 : BitVec 32 := Scalar.muli v102 c256_i32
  let v104 : Index := Scalar.indexCast v103
  let c0_53 : Index := 0#32
  ![v104.toNat, 0]
def k0_dev4 (d0 : Dev nD) : Nat :=
  let c0_i32_64 : BitVec 32 := 0#32
  let c4_i32_59 : BitVec 32 := 4#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v112 : BitVec 32 := Scalar.subi c1_i32_58 v57
  let v113 : BitVec 32 := Scalar.muli c4_i32_59 v112
  let c2_i32_60 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v114 : BitVec 32 := Scalar.muli c2_i32_60 v29
  let v115 : BitVec 32 := Scalar.addi v113 v114
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v116 : BitVec 32 := Scalar.xori v40 v29
  let v117 : BitVec 32 := Scalar.addi v115 v116
  let c1_i32_63 : BitVec 32 := 1#32
  let v118 : BitVec 32 := Scalar.muli v117 c1_i32_63
  let v119 : BitVec 32 := Scalar.addi c0_i32_64 v118
  v119.toNat
def k0_dev5 (d0 : Dev nD) : Nat :=
  let c0_i32_86 : BitVec 32 := 0#32
  let c4_i32_81 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v144 : BitVec 32 := Scalar.muli c4_i32_81 v57
  let c2_i32_82 : BitVec 32 := 2#32
  let c1_i32_80 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v143 : BitVec 32 := Scalar.subi c1_i32_80 v29
  let v145 : BitVec 32 := Scalar.muli c2_i32_82 v143
  let v146 : BitVec 32 := Scalar.addi v144 v145
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v147 : BitVec 32 := Scalar.xori v40 v143
  let v148 : BitVec 32 := Scalar.addi v146 v147
  let c1_i32_85 : BitVec 32 := 1#32
  let v149 : BitVec 32 := Scalar.muli v148 c1_i32_85
  let v150 : BitVec 32 := Scalar.addi c0_i32_86 v149
  v150.toNat
def k0_dev6 (d0 : Dev nD) : Nat :=
  let c0_i32_108 : BitVec 32 := 0#32
  let c4_i32_103 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v175 : BitVec 32 := Scalar.muli c4_i32_103 v57
  let c2_i32_104 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v176 : BitVec 32 := Scalar.muli c2_i32_104 v29
  let v177 : BitVec 32 := Scalar.addi v175 v176
  let c1_i32_102 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v174 : BitVec 32 := Scalar.subi c1_i32_102 v40
  let v178 : BitVec 32 := Scalar.xori v174 v29
  let v179 : BitVec 32 := Scalar.addi v177 v178
  let c1_i32_107 : BitVec 32 := 1#32
  let v180 : BitVec 32 := Scalar.muli v179 c1_i32_107
  let v181 : BitVec 32 := Scalar.addi c0_i32_108 v180
  v181.toNat
def k0_dev7 (d0 : Dev nD) : Nat :=
  let c0_i32_130 : BitVec 32 := 0#32
  let c4_i32_125 : BitVec 32 := 4#32
  let c1_i32_124 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v205 : BitVec 32 := Scalar.subi c1_i32_124 v57
  let v206 : BitVec 32 := Scalar.muli c4_i32_125 v205
  let c2_i32_126 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v207 : BitVec 32 := Scalar.muli c2_i32_126 v29
  let v208 : BitVec 32 := Scalar.addi v206 v207
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v209 : BitVec 32 := Scalar.xori v40 v29
  let v210 : BitVec 32 := Scalar.addi v208 v209
  let c1_i32_129 : BitVec 32 := 1#32
  let v211 : BitVec 32 := Scalar.muli v210 c1_i32_129
  let v212 : BitVec 32 := Scalar.addi c0_i32_130 v211
  v212.toNat
def k0_dev8 (d0 : Dev nD) : Nat :=
  let c0_i32_152 : BitVec 32 := 0#32
  let c4_i32_147 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v237 : BitVec 32 := Scalar.muli c4_i32_147 v57
  let c2_i32_148 : BitVec 32 := 2#32
  let c1_i32_146 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v236 : BitVec 32 := Scalar.subi c1_i32_146 v29
  let v238 : BitVec 32 := Scalar.muli c2_i32_148 v236
  let v239 : BitVec 32 := Scalar.addi v237 v238
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v240 : BitVec 32 := Scalar.xori v40 v236
  let v241 : BitVec 32 := Scalar.addi v239 v240
  let c1_i32_151 : BitVec 32 := 1#32
  let v242 : BitVec 32 := Scalar.muli v241 c1_i32_151
  let v243 : BitVec 32 := Scalar.addi c0_i32_152 v242
  v243.toNat
def k0_dev9 (d0 : Dev nD) : Nat :=
  let c0_i32_174 : BitVec 32 := 0#32
  let c4_i32_169 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v268 : BitVec 32 := Scalar.muli c4_i32_169 v57
  let c2_i32_170 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v269 : BitVec 32 := Scalar.muli c2_i32_170 v29
  let v270 : BitVec 32 := Scalar.addi v268 v269
  let c1_i32_168 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v267 : BitVec 32 := Scalar.subi c1_i32_168 v40
  let v271 : BitVec 32 := Scalar.xori v267 v29
  let v272 : BitVec 32 := Scalar.addi v270 v271
  let c1_i32_173 : BitVec 32 := 1#32
  let v273 : BitVec 32 := Scalar.muli v272 c1_i32_173
  let v274 : BitVec 32 := Scalar.addi c0_i32_174 v273
  v274.toNat
def k0_off2 (d0 : Dev nD) : Fin 2 → Nat :=
  let c4_i32_181 : BitVec 32 := 4#32
  let c1_i32_180 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v282 : BitVec 32 := Scalar.subi c1_i32_180 v57
  let v283 : BitVec 32 := Scalar.muli c4_i32_181 v282
  let c2_i32_182 : BitVec 32 := 2#32
  let c1_i32_179 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v281 : BitVec 32 := Scalar.subi c1_i32_179 v29
  let v284 : BitVec 32 := Scalar.muli c2_i32_182 v281
  let v285 : BitVec 32 := Scalar.addi v283 v284
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v286 : BitVec 32 := Scalar.xori v40 v281
  let v287 : BitVec 32 := Scalar.addi v285 v286
  let c256_i32_183 : BitVec 32 := 256#32
  let v288 : BitVec 32 := Scalar.muli v287 c256_i32_183
  let v289 : Index := Scalar.indexCast v288
  let c0_184 : Index := 0#32
  ![v289.toNat, 0]
def k0_dev10 (d0 : Dev nD) : Nat :=
  let c0_i32_195 : BitVec 32 := 0#32
  let c4_i32_190 : BitVec 32 := 4#32
  let c1_i32_189 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v297 : BitVec 32 := Scalar.subi c1_i32_189 v57
  let v298 : BitVec 32 := Scalar.muli c4_i32_190 v297
  let c2_i32_191 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v299 : BitVec 32 := Scalar.muli c2_i32_191 v29
  let v300 : BitVec 32 := Scalar.addi v298 v299
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v301 : BitVec 32 := Scalar.xori v40 v29
  let v302 : BitVec 32 := Scalar.addi v300 v301
  let c1_i32_194 : BitVec 32 := 1#32
  let v303 : BitVec 32 := Scalar.muli v302 c1_i32_194
  let v304 : BitVec 32 := Scalar.addi c0_i32_195 v303
  v304.toNat
def k0_off3 (d0 : Dev nD) : Fin 2 → Nat :=
  let c4_i32_202 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v313 : BitVec 32 := Scalar.muli c4_i32_202 v57
  let c2_i32_203 : BitVec 32 := 2#32
  let c1_i32_201 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v312 : BitVec 32 := Scalar.subi c1_i32_201 v29
  let v314 : BitVec 32 := Scalar.muli c2_i32_203 v312
  let v315 : BitVec 32 := Scalar.addi v313 v314
  let c1_i32_200 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v311 : BitVec 32 := Scalar.subi c1_i32_200 v40
  let v316 : BitVec 32 := Scalar.xori v311 v312
  let v317 : BitVec 32 := Scalar.addi v315 v316
  let c256_i32_204 : BitVec 32 := 256#32
  let v318 : BitVec 32 := Scalar.muli v317 c256_i32_204
  let v319 : Index := Scalar.indexCast v318
  let c0_205 : Index := 0#32
  ![v319.toNat, 0]
def k0_dev11 (d0 : Dev nD) : Nat :=
  let c0_i32_217 : BitVec 32 := 0#32
  let c4_i32_212 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v328 : BitVec 32 := Scalar.muli c4_i32_212 v57
  let c2_i32_213 : BitVec 32 := 2#32
  let c1_i32_211 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v327 : BitVec 32 := Scalar.subi c1_i32_211 v29
  let v329 : BitVec 32 := Scalar.muli c2_i32_213 v327
  let v330 : BitVec 32 := Scalar.addi v328 v329
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v331 : BitVec 32 := Scalar.xori v40 v327
  let v332 : BitVec 32 := Scalar.addi v330 v331
  let c1_i32_216 : BitVec 32 := 1#32
  let v333 : BitVec 32 := Scalar.muli v332 c1_i32_216
  let v334 : BitVec 32 := Scalar.addi c0_i32_217 v333
  v334.toNat
def k0_off4 (d0 : Dev nD) : Fin 2 → Nat :=
  let c4_i32_224 : BitVec 32 := 4#32
  let c1_i32_222 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v341 : BitVec 32 := Scalar.subi c1_i32_222 v57
  let v343 : BitVec 32 := Scalar.muli c4_i32_224 v341
  let c2_i32_225 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v344 : BitVec 32 := Scalar.muli c2_i32_225 v29
  let v345 : BitVec 32 := Scalar.addi v343 v344
  let c1_i32_223 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v342 : BitVec 32 := Scalar.subi c1_i32_223 v40
  let v346 : BitVec 32 := Scalar.xori v342 v29
  let v347 : BitVec 32 := Scalar.addi v345 v346
  let c256_i32_226 : BitVec 32 := 256#32
  let v348 : BitVec 32 := Scalar.muli v347 c256_i32_226
  let v349 : Index := Scalar.indexCast v348
  let c0_227 : Index := 0#32
  ![v349.toNat, 0]
def k0_dev12 (d0 : Dev nD) : Nat :=
  let c0_i32_239 : BitVec 32 := 0#32
  let c4_i32_234 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v358 : BitVec 32 := Scalar.muli c4_i32_234 v57
  let c2_i32_235 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v359 : BitVec 32 := Scalar.muli c2_i32_235 v29
  let v360 : BitVec 32 := Scalar.addi v358 v359
  let c1_i32_233 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v357 : BitVec 32 := Scalar.subi c1_i32_233 v40
  let v361 : BitVec 32 := Scalar.xori v357 v29
  let v362 : BitVec 32 := Scalar.addi v360 v361
  let c1_i32_238 : BitVec 32 := 1#32
  let v363 : BitVec 32 := Scalar.muli v362 c1_i32_238
  let v364 : BitVec 32 := Scalar.addi c0_i32_239 v363
  v364.toNat
def k0_dev13 (d0 : Dev nD) : Nat :=
  let c0_i32_261 : BitVec 32 := 0#32
  let c4_i32_256 : BitVec 32 := 4#32
  let c1_i32_255 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v387 : BitVec 32 := Scalar.subi c1_i32_255 v57
  let v388 : BitVec 32 := Scalar.muli c4_i32_256 v387
  let c2_i32_257 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v389 : BitVec 32 := Scalar.muli c2_i32_257 v29
  let v390 : BitVec 32 := Scalar.addi v388 v389
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v391 : BitVec 32 := Scalar.xori v40 v29
  let v392 : BitVec 32 := Scalar.addi v390 v391
  let c1_i32_260 : BitVec 32 := 1#32
  let v393 : BitVec 32 := Scalar.muli v392 c1_i32_260
  let v394 : BitVec 32 := Scalar.addi c0_i32_261 v393
  v394.toNat
def k0_dev14 (d0 : Dev nD) : Nat :=
  let c0_i32_283 : BitVec 32 := 0#32
  let c4_i32_278 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v418 : BitVec 32 := Scalar.muli c4_i32_278 v57
  let c2_i32_279 : BitVec 32 := 2#32
  let c1_i32_277 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v417 : BitVec 32 := Scalar.subi c1_i32_277 v29
  let v419 : BitVec 32 := Scalar.muli c2_i32_279 v417
  let v420 : BitVec 32 := Scalar.addi v418 v419
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v421 : BitVec 32 := Scalar.xori v40 v417
  let v422 : BitVec 32 := Scalar.addi v420 v421
  let c1_i32_282 : BitVec 32 := 1#32
  let v423 : BitVec 32 := Scalar.muli v422 c1_i32_282
  let v424 : BitVec 32 := Scalar.addi c0_i32_283 v423
  v424.toNat
def k0_dev15 (d0 : Dev nD) : Nat :=
  let c0_i32_305 : BitVec 32 := 0#32
  let c4_i32_300 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v448 : BitVec 32 := Scalar.muli c4_i32_300 v57
  let c2_i32_301 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v449 : BitVec 32 := Scalar.muli c2_i32_301 v29
  let v450 : BitVec 32 := Scalar.addi v448 v449
  let c1_i32_299 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v447 : BitVec 32 := Scalar.subi c1_i32_299 v40
  let v451 : BitVec 32 := Scalar.xori v447 v29
  let v452 : BitVec 32 := Scalar.addi v450 v451
  let c1_i32_304 : BitVec 32 := 1#32
  let v453 : BitVec 32 := Scalar.muli v452 c1_i32_304
  let v454 : BitVec 32 := Scalar.addi c0_i32_305 v453
  v454.toNat
def k0_dev16 (d0 : Dev nD) : Nat :=
  let c0_i32_326 : BitVec 32 := 0#32
  let c4_i32_321 : BitVec 32 := 4#32
  let c1_i32_320 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v477 : BitVec 32 := Scalar.subi c1_i32_320 v57
  let v478 : BitVec 32 := Scalar.muli c4_i32_321 v477
  let c2_i32_322 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v479 : BitVec 32 := Scalar.muli c2_i32_322 v29
  let v480 : BitVec 32 := Scalar.addi v478 v479
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v481 : BitVec 32 := Scalar.xori v40 v29
  let v482 : BitVec 32 := Scalar.addi v480 v481
  let c1_i32_325 : BitVec 32 := 1#32
  let v483 : BitVec 32 := Scalar.muli v482 c1_i32_325
  let v484 : BitVec 32 := Scalar.addi c0_i32_326 v483
  v484.toNat
def k0_dev17 (d0 : Dev nD) : Nat :=
  let c0_i32_347 : BitVec 32 := 0#32
  let c4_i32_342 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v508 : BitVec 32 := Scalar.muli c4_i32_342 v57
  let c2_i32_343 : BitVec 32 := 2#32
  let c1_i32_341 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v507 : BitVec 32 := Scalar.subi c1_i32_341 v29
  let v509 : BitVec 32 := Scalar.muli c2_i32_343 v507
  let v510 : BitVec 32 := Scalar.addi v508 v509
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v511 : BitVec 32 := Scalar.xori v40 v507
  let v512 : BitVec 32 := Scalar.addi v510 v511
  let c1_i32_346 : BitVec 32 := 1#32
  let v513 : BitVec 32 := Scalar.muli v512 c1_i32_346
  let v514 : BitVec 32 := Scalar.addi c0_i32_347 v513
  v514.toNat
def k0_dev18 (d0 : Dev nD) : Nat :=
  let c0_i32_369 : BitVec 32 := 0#32
  let c4_i32_364 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v538 : BitVec 32 := Scalar.muli c4_i32_364 v57
  let c2_i32_365 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v539 : BitVec 32 := Scalar.muli c2_i32_365 v29
  let v540 : BitVec 32 := Scalar.addi v538 v539
  let c1_i32_363 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v537 : BitVec 32 := Scalar.subi c1_i32_363 v40
  let v541 : BitVec 32 := Scalar.xori v537 v29
  let v542 : BitVec 32 := Scalar.addi v540 v541
  let c1_i32_368 : BitVec 32 := 1#32
  let v543 : BitVec 32 := Scalar.muli v542 c1_i32_368
  let v544 : BitVec 32 := Scalar.addi c0_i32_369 v543
  v544.toNat
def k0_dev19 (d0 : Dev nD) : Nat :=
  let c0_i32_391 : BitVec 32 := 0#32
  let c4_i32_386 : BitVec 32 := 4#32
  let c1_i32_385 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v567 : BitVec 32 := Scalar.subi c1_i32_385 v57
  let v568 : BitVec 32 := Scalar.muli c4_i32_386 v567
  let c2_i32_387 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v569 : BitVec 32 := Scalar.muli c2_i32_387 v29
  let v570 : BitVec 32 := Scalar.addi v568 v569
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v571 : BitVec 32 := Scalar.xori v40 v29
  let v572 : BitVec 32 := Scalar.addi v570 v571
  let c1_i32_390 : BitVec 32 := 1#32
  let v573 : BitVec 32 := Scalar.muli v572 c1_i32_390
  let v574 : BitVec 32 := Scalar.addi c0_i32_391 v573
  v574.toNat
def k0_dev20 (d0 : Dev nD) : Nat :=
  let c0_i32_413 : BitVec 32 := 0#32
  let c4_i32_408 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v598 : BitVec 32 := Scalar.muli c4_i32_408 v57
  let c2_i32_409 : BitVec 32 := 2#32
  let c1_i32_407 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v597 : BitVec 32 := Scalar.subi c1_i32_407 v29
  let v599 : BitVec 32 := Scalar.muli c2_i32_409 v597
  let v600 : BitVec 32 := Scalar.addi v598 v599
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v601 : BitVec 32 := Scalar.xori v40 v597
  let v602 : BitVec 32 := Scalar.addi v600 v601
  let c1_i32_412 : BitVec 32 := 1#32
  let v603 : BitVec 32 := Scalar.muli v602 c1_i32_412
  let v604 : BitVec 32 := Scalar.addi c0_i32_413 v603
  v604.toNat
def k0_dev21 (d0 : Dev nD) : Nat :=
  let c0_i32_435 : BitVec 32 := 0#32
  let c4_i32_430 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v628 : BitVec 32 := Scalar.muli c4_i32_430 v57
  let c2_i32_431 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v629 : BitVec 32 := Scalar.muli c2_i32_431 v29
  let v630 : BitVec 32 := Scalar.addi v628 v629
  let c1_i32_429 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v627 : BitVec 32 := Scalar.subi c1_i32_429 v40
  let v631 : BitVec 32 := Scalar.xori v627 v29
  let v632 : BitVec 32 := Scalar.addi v630 v631
  let c1_i32_434 : BitVec 32 := 1#32
  let v633 : BitVec 32 := Scalar.muli v632 c1_i32_434
  let v634 : BitVec 32 := Scalar.addi c0_i32_435 v633
  v634.toNat
def k0_off5 (d0 : Dev nD) : Fin 2 → Nat :=
  let c4_i32_441 : BitVec 32 := 4#32
  let c1_i32_440 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v641 : BitVec 32 := Scalar.subi c1_i32_440 v57
  let v642 : BitVec 32 := Scalar.muli c4_i32_441 v641
  let c2_i32_442 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v643 : BitVec 32 := Scalar.muli c2_i32_442 v29
  let v644 : BitVec 32 := Scalar.addi v642 v643
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v645 : BitVec 32 := Scalar.xori v40 v29
  let v646 : BitVec 32 := Scalar.addi v644 v645
  let c256_i32_443 : BitVec 32 := 256#32
  let v647 : BitVec 32 := Scalar.muli v646 c256_i32_443
  let v648 : Index := Scalar.indexCast v647
  let c0_444 : Index := 0#32
  ![v648.toNat, 0]
def k0_dev22 (d0 : Dev nD) : Nat :=
  let c0_i32_456 : BitVec 32 := 0#32
  let c4_i32_451 : BitVec 32 := 4#32
  let c1_i32_450 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v656 : BitVec 32 := Scalar.subi c1_i32_450 v57
  let v657 : BitVec 32 := Scalar.muli c4_i32_451 v656
  let c2_i32_452 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v658 : BitVec 32 := Scalar.muli c2_i32_452 v29
  let v659 : BitVec 32 := Scalar.addi v657 v658
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v660 : BitVec 32 := Scalar.xori v40 v29
  let v661 : BitVec 32 := Scalar.addi v659 v660
  let c1_i32_455 : BitVec 32 := 1#32
  let v662 : BitVec 32 := Scalar.muli v661 c1_i32_455
  let v663 : BitVec 32 := Scalar.addi c0_i32_456 v662
  v663.toNat
def k0_off6 (d0 : Dev nD) : Fin 2 → Nat :=
  let c4_i32_461 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v671 : BitVec 32 := Scalar.muli c4_i32_461 v57
  let c2_i32_462 : BitVec 32 := 2#32
  let c1_i32_460 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v670 : BitVec 32 := Scalar.subi c1_i32_460 v29
  let v672 : BitVec 32 := Scalar.muli c2_i32_462 v670
  let v673 : BitVec 32 := Scalar.addi v671 v672
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v674 : BitVec 32 := Scalar.xori v40 v670
  let v675 : BitVec 32 := Scalar.addi v673 v674
  let c256_i32_463 : BitVec 32 := 256#32
  let v676 : BitVec 32 := Scalar.muli v675 c256_i32_463
  let v677 : Index := Scalar.indexCast v676
  let c0_464 : Index := 0#32
  ![v677.toNat, 0]
def k0_dev23 (d0 : Dev nD) : Nat :=
  let c0_i32_476 : BitVec 32 := 0#32
  let c4_i32_471 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v686 : BitVec 32 := Scalar.muli c4_i32_471 v57
  let c2_i32_472 : BitVec 32 := 2#32
  let c1_i32_470 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v685 : BitVec 32 := Scalar.subi c1_i32_470 v29
  let v687 : BitVec 32 := Scalar.muli c2_i32_472 v685
  let v688 : BitVec 32 := Scalar.addi v686 v687
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v689 : BitVec 32 := Scalar.xori v40 v685
  let v690 : BitVec 32 := Scalar.addi v688 v689
  let c1_i32_475 : BitVec 32 := 1#32
  let v691 : BitVec 32 := Scalar.muli v690 c1_i32_475
  let v692 : BitVec 32 := Scalar.addi c0_i32_476 v691
  v692.toNat
def k0_off7 (d0 : Dev nD) : Fin 2 → Nat :=
  let c4_i32_482 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v700 : BitVec 32 := Scalar.muli c4_i32_482 v57
  let c2_i32_483 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v701 : BitVec 32 := Scalar.muli c2_i32_483 v29
  let v702 : BitVec 32 := Scalar.addi v700 v701
  let c1_i32_481 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v699 : BitVec 32 := Scalar.subi c1_i32_481 v40
  let v703 : BitVec 32 := Scalar.xori v699 v29
  let v704 : BitVec 32 := Scalar.addi v702 v703
  let c256_i32_484 : BitVec 32 := 256#32
  let v705 : BitVec 32 := Scalar.muli v704 c256_i32_484
  let v706 : Index := Scalar.indexCast v705
  let c0_485 : Index := 0#32
  ![v706.toNat, 0]
def k0_dev24 (d0 : Dev nD) : Nat :=
  let c0_i32_497 : BitVec 32 := 0#32
  let c4_i32_492 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v715 : BitVec 32 := Scalar.muli c4_i32_492 v57
  let c2_i32_493 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v716 : BitVec 32 := Scalar.muli c2_i32_493 v29
  let v717 : BitVec 32 := Scalar.addi v715 v716
  let c1_i32_491 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v714 : BitVec 32 := Scalar.subi c1_i32_491 v40
  let v718 : BitVec 32 := Scalar.xori v714 v29
  let v719 : BitVec 32 := Scalar.addi v717 v718
  let c1_i32_496 : BitVec 32 := 1#32
  let v720 : BitVec 32 := Scalar.muli v719 c1_i32_496
  let v721 : BitVec 32 := Scalar.addi c0_i32_497 v720
  v721.toNat
def k0_dev25 (d0 : Dev nD) : Nat :=
  let c0_i32_518 : BitVec 32 := 0#32
  let c4_i32_513 : BitVec 32 := 4#32
  let c1_i32_512 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v743 : BitVec 32 := Scalar.subi c1_i32_512 v57
  let v744 : BitVec 32 := Scalar.muli c4_i32_513 v743
  let c2_i32_514 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v745 : BitVec 32 := Scalar.muli c2_i32_514 v29
  let v746 : BitVec 32 := Scalar.addi v744 v745
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v747 : BitVec 32 := Scalar.xori v40 v29
  let v748 : BitVec 32 := Scalar.addi v746 v747
  let c1_i32_517 : BitVec 32 := 1#32
  let v749 : BitVec 32 := Scalar.muli v748 c1_i32_517
  let v750 : BitVec 32 := Scalar.addi c0_i32_518 v749
  v750.toNat
def k0_dev26 (d0 : Dev nD) : Nat :=
  let c0_i32_539 : BitVec 32 := 0#32
  let c4_i32_534 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v773 : BitVec 32 := Scalar.muli c4_i32_534 v57
  let c2_i32_535 : BitVec 32 := 2#32
  let c1_i32_533 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v772 : BitVec 32 := Scalar.subi c1_i32_533 v29
  let v774 : BitVec 32 := Scalar.muli c2_i32_535 v772
  let v775 : BitVec 32 := Scalar.addi v773 v774
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v776 : BitVec 32 := Scalar.xori v40 v772
  let v777 : BitVec 32 := Scalar.addi v775 v776
  let c1_i32_538 : BitVec 32 := 1#32
  let v778 : BitVec 32 := Scalar.muli v777 c1_i32_538
  let v779 : BitVec 32 := Scalar.addi c0_i32_539 v778
  v779.toNat
def k0_dev27 (d0 : Dev nD) : Nat :=
  let c0_i32_560 : BitVec 32 := 0#32
  let c4_i32_555 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v802 : BitVec 32 := Scalar.muli c4_i32_555 v57
  let c2_i32_556 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v803 : BitVec 32 := Scalar.muli c2_i32_556 v29
  let v804 : BitVec 32 := Scalar.addi v802 v803
  let c1_i32_554 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v801 : BitVec 32 := Scalar.subi c1_i32_554 v40
  let v805 : BitVec 32 := Scalar.xori v801 v29
  let v806 : BitVec 32 := Scalar.addi v804 v805
  let c1_i32_559 : BitVec 32 := 1#32
  let v807 : BitVec 32 := Scalar.muli v806 c1_i32_559
  let v808 : BitVec 32 := Scalar.addi c0_i32_560 v807
  v808.toNat
def k0_dev28 (d0 : Dev nD) : Nat :=
  let c0_i32_711 : BitVec 32 := 0#32
  let c4_i32_706 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1017 : BitVec 32 := Scalar.muli c4_i32_706 v57
  let c2_i32_707 : BitVec 32 := 2#32
  let c1_i32_705 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1016 : BitVec 32 := Scalar.subi c1_i32_705 v29
  let v1018 : BitVec 32 := Scalar.muli c2_i32_707 v1016
  let v1019 : BitVec 32 := Scalar.addi v1017 v1018
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1020 : BitVec 32 := Scalar.xori v40 v1016
  let v1021 : BitVec 32 := Scalar.addi v1019 v1020
  let c1_i32_710 : BitVec 32 := 1#32
  let v1022 : BitVec 32 := Scalar.muli v1021 c1_i32_710
  let v1023 : BitVec 32 := Scalar.addi c0_i32_711 v1022
  v1023.toNat
def k0_dev29 (d0 : Dev nD) : Nat :=
  let c0_i32_736 : BitVec 32 := 0#32
  let c4_i32_731 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1046 : BitVec 32 := Scalar.muli c4_i32_731 v57
  let c2_i32_732 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1047 : BitVec 32 := Scalar.muli c2_i32_732 v29
  let v1048 : BitVec 32 := Scalar.addi v1046 v1047
  let c1_i32_730 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1045 : BitVec 32 := Scalar.subi c1_i32_730 v40
  let v1049 : BitVec 32 := Scalar.xori v1045 v29
  let v1050 : BitVec 32 := Scalar.addi v1048 v1049
  let c1_i32_735 : BitVec 32 := 1#32
  let v1051 : BitVec 32 := Scalar.muli v1050 c1_i32_735
  let v1052 : BitVec 32 := Scalar.addi c0_i32_736 v1051
  v1052.toNat
def k0_dev30 (d0 : Dev nD) : Nat :=
  let c0_i32_761 : BitVec 32 := 0#32
  let c4_i32_756 : BitVec 32 := 4#32
  let c1_i32_755 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1074 : BitVec 32 := Scalar.subi c1_i32_755 v57
  let v1075 : BitVec 32 := Scalar.muli c4_i32_756 v1074
  let c2_i32_757 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1076 : BitVec 32 := Scalar.muli c2_i32_757 v29
  let v1077 : BitVec 32 := Scalar.addi v1075 v1076
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1078 : BitVec 32 := Scalar.xori v40 v29
  let v1079 : BitVec 32 := Scalar.addi v1077 v1078
  let c1_i32_760 : BitVec 32 := 1#32
  let v1080 : BitVec 32 := Scalar.muli v1079 c1_i32_760
  let v1081 : BitVec 32 := Scalar.addi c0_i32_761 v1080
  v1081.toNat
def k0_dev31 (d0 : Dev nD) : Nat :=
  let c0_i32_786 : BitVec 32 := 0#32
  let c4_i32_781 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1104 : BitVec 32 := Scalar.muli c4_i32_781 v57
  let c2_i32_782 : BitVec 32 := 2#32
  let c1_i32_780 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1103 : BitVec 32 := Scalar.subi c1_i32_780 v29
  let v1105 : BitVec 32 := Scalar.muli c2_i32_782 v1103
  let v1106 : BitVec 32 := Scalar.addi v1104 v1105
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1107 : BitVec 32 := Scalar.xori v40 v1103
  let v1108 : BitVec 32 := Scalar.addi v1106 v1107
  let c1_i32_785 : BitVec 32 := 1#32
  let v1109 : BitVec 32 := Scalar.muli v1108 c1_i32_785
  let v1110 : BitVec 32 := Scalar.addi c0_i32_786 v1109
  v1110.toNat
def k0_dev32 (d0 : Dev nD) : Nat :=
  let c0_i32_811 : BitVec 32 := 0#32
  let c4_i32_806 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1133 : BitVec 32 := Scalar.muli c4_i32_806 v57
  let c2_i32_807 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1134 : BitVec 32 := Scalar.muli c2_i32_807 v29
  let v1135 : BitVec 32 := Scalar.addi v1133 v1134
  let c1_i32_805 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1132 : BitVec 32 := Scalar.subi c1_i32_805 v40
  let v1136 : BitVec 32 := Scalar.xori v1132 v29
  let v1137 : BitVec 32 := Scalar.addi v1135 v1136
  let c1_i32_810 : BitVec 32 := 1#32
  let v1138 : BitVec 32 := Scalar.muli v1137 c1_i32_810
  let v1139 : BitVec 32 := Scalar.addi c0_i32_811 v1138
  v1139.toNat
def k0_dev33 (d0 : Dev nD) : Nat :=
  let c0_i32_836 : BitVec 32 := 0#32
  let c4_i32_831 : BitVec 32 := 4#32
  let c1_i32_830 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1161 : BitVec 32 := Scalar.subi c1_i32_830 v57
  let v1162 : BitVec 32 := Scalar.muli c4_i32_831 v1161
  let c2_i32_832 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1163 : BitVec 32 := Scalar.muli c2_i32_832 v29
  let v1164 : BitVec 32 := Scalar.addi v1162 v1163
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1165 : BitVec 32 := Scalar.xori v40 v29
  let v1166 : BitVec 32 := Scalar.addi v1164 v1165
  let c1_i32_835 : BitVec 32 := 1#32
  let v1167 : BitVec 32 := Scalar.muli v1166 c1_i32_835
  let v1168 : BitVec 32 := Scalar.addi c0_i32_836 v1167
  v1168.toNat
def k0_dev34 (d0 : Dev nD) : Nat :=
  let c0_i32_860 : BitVec 32 := 0#32
  let c4_i32_856 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1191 : BitVec 32 := Scalar.muli c4_i32_856 v57
  let c2_i32_857 : BitVec 32 := 2#32
  let c1_i32_855 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1190 : BitVec 32 := Scalar.subi c1_i32_855 v29
  let v1192 : BitVec 32 := Scalar.muli c2_i32_857 v1190
  let v1193 : BitVec 32 := Scalar.addi v1191 v1192
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1194 : BitVec 32 := Scalar.xori v40 v1190
  let v1195 : BitVec 32 := Scalar.addi v1193 v1194
  let c1_i32_859 : BitVec 32 := 1#32
  let v1196 : BitVec 32 := Scalar.muli v1195 c1_i32_859
  let v1197 : BitVec 32 := Scalar.addi c0_i32_860 v1196
  v1197.toNat
def k0_dev35 (d0 : Dev nD) : Nat :=
  let c0_i32_885 : BitVec 32 := 0#32
  let c4_i32_880 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1220 : BitVec 32 := Scalar.muli c4_i32_880 v57
  let c2_i32_881 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1221 : BitVec 32 := Scalar.muli c2_i32_881 v29
  let v1222 : BitVec 32 := Scalar.addi v1220 v1221
  let c1_i32_879 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1219 : BitVec 32 := Scalar.subi c1_i32_879 v40
  let v1223 : BitVec 32 := Scalar.xori v1219 v29
  let v1224 : BitVec 32 := Scalar.addi v1222 v1223
  let c1_i32_884 : BitVec 32 := 1#32
  let v1225 : BitVec 32 := Scalar.muli v1224 c1_i32_884
  let v1226 : BitVec 32 := Scalar.addi c0_i32_885 v1225
  v1226.toNat
def k0_dev36 (d0 : Dev nD) : Nat :=
  let c0_i32_910 : BitVec 32 := 0#32
  let c4_i32_905 : BitVec 32 := 4#32
  let c1_i32_904 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1248 : BitVec 32 := Scalar.subi c1_i32_904 v57
  let v1249 : BitVec 32 := Scalar.muli c4_i32_905 v1248
  let c2_i32_906 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1250 : BitVec 32 := Scalar.muli c2_i32_906 v29
  let v1251 : BitVec 32 := Scalar.addi v1249 v1250
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1252 : BitVec 32 := Scalar.xori v40 v29
  let v1253 : BitVec 32 := Scalar.addi v1251 v1252
  let c1_i32_909 : BitVec 32 := 1#32
  let v1254 : BitVec 32 := Scalar.muli v1253 c1_i32_909
  let v1255 : BitVec 32 := Scalar.addi c0_i32_910 v1254
  v1255.toNat
def k0_dev37 (d0 : Dev nD) : Nat :=
  let c0_i32_935 : BitVec 32 := 0#32
  let c4_i32_930 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1278 : BitVec 32 := Scalar.muli c4_i32_930 v57
  let c2_i32_931 : BitVec 32 := 2#32
  let c1_i32_929 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1277 : BitVec 32 := Scalar.subi c1_i32_929 v29
  let v1279 : BitVec 32 := Scalar.muli c2_i32_931 v1277
  let v1280 : BitVec 32 := Scalar.addi v1278 v1279
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1281 : BitVec 32 := Scalar.xori v40 v1277
  let v1282 : BitVec 32 := Scalar.addi v1280 v1281
  let c1_i32_934 : BitVec 32 := 1#32
  let v1283 : BitVec 32 := Scalar.muli v1282 c1_i32_934
  let v1284 : BitVec 32 := Scalar.addi c0_i32_935 v1283
  v1284.toNat
def k0_dev38 (d0 : Dev nD) : Nat :=
  let c0_i32_960 : BitVec 32 := 0#32
  let c4_i32_955 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1307 : BitVec 32 := Scalar.muli c4_i32_955 v57
  let c2_i32_956 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1308 : BitVec 32 := Scalar.muli c2_i32_956 v29
  let v1309 : BitVec 32 := Scalar.addi v1307 v1308
  let c1_i32_954 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1306 : BitVec 32 := Scalar.subi c1_i32_954 v40
  let v1310 : BitVec 32 := Scalar.xori v1306 v29
  let v1311 : BitVec 32 := Scalar.addi v1309 v1310
  let c1_i32_959 : BitVec 32 := 1#32
  let v1312 : BitVec 32 := Scalar.muli v1311 c1_i32_959
  let v1313 : BitVec 32 := Scalar.addi c0_i32_960 v1312
  v1313.toNat
def k0_dev39 (d0 : Dev nD) : Nat :=
  let c0_i32_985 : BitVec 32 := 0#32
  let c4_i32_980 : BitVec 32 := 4#32
  let c1_i32_979 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1335 : BitVec 32 := Scalar.subi c1_i32_979 v57
  let v1336 : BitVec 32 := Scalar.muli c4_i32_980 v1335
  let c2_i32_981 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1337 : BitVec 32 := Scalar.muli c2_i32_981 v29
  let v1338 : BitVec 32 := Scalar.addi v1336 v1337
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1339 : BitVec 32 := Scalar.xori v40 v29
  let v1340 : BitVec 32 := Scalar.addi v1338 v1339
  let c1_i32_984 : BitVec 32 := 1#32
  let v1341 : BitVec 32 := Scalar.muli v1340 c1_i32_984
  let v1342 : BitVec 32 := Scalar.addi c0_i32_985 v1341
  v1342.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1000 : BitVec 32 := 256#32
  let v1364 : BitVec 32 := Scalar.muli v2 c256_i32_1000
  let v1365 : Index := Scalar.indexCast v1364
  let c0_1001 : Index := 0#32
  ![v1365.toNat, 0]
def k0_dev40 (d0 : Dev nD) : Nat :=
  let c0_i32_1121 : BitVec 32 := 0#32
  let c4_i32_1117 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1500 : BitVec 32 := Scalar.muli c4_i32_1117 v57
  let c2_i32_1118 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1501 : BitVec 32 := Scalar.muli c2_i32_1118 v29
  let v1502 : BitVec 32 := Scalar.addi v1500 v1501
  let c1_i32_1116 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1499 : BitVec 32 := Scalar.subi c1_i32_1116 v40
  let v1503 : BitVec 32 := Scalar.xori v1499 v29
  let v1504 : BitVec 32 := Scalar.addi v1502 v1503
  let c1_i32_1120 : BitVec 32 := 1#32
  let v1505 : BitVec 32 := Scalar.muli v1504 c1_i32_1120
  let v1506 : BitVec 32 := Scalar.addi c0_i32_1121 v1505
  v1506.toNat
def k0_dev41 (d0 : Dev nD) : Nat :=
  let c0_i32_1152 : BitVec 32 := 0#32
  let c4_i32_1147 : BitVec 32 := 4#32
  let c1_i32_1146 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1535 : BitVec 32 := Scalar.subi c1_i32_1146 v57
  let v1536 : BitVec 32 := Scalar.muli c4_i32_1147 v1535
  let c2_i32_1148 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1537 : BitVec 32 := Scalar.muli c2_i32_1148 v29
  let v1538 : BitVec 32 := Scalar.addi v1536 v1537
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1539 : BitVec 32 := Scalar.xori v40 v29
  let v1540 : BitVec 32 := Scalar.addi v1538 v1539
  let c1_i32_1151 : BitVec 32 := 1#32
  let v1541 : BitVec 32 := Scalar.muli v1540 c1_i32_1151
  let v1542 : BitVec 32 := Scalar.addi c0_i32_1152 v1541
  v1542.toNat
def k0_dev42 (d0 : Dev nD) : Nat :=
  let c0_i32_1183 : BitVec 32 := 0#32
  let c4_i32_1178 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1572 : BitVec 32 := Scalar.muli c4_i32_1178 v57
  let c2_i32_1179 : BitVec 32 := 2#32
  let c1_i32_1177 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1571 : BitVec 32 := Scalar.subi c1_i32_1177 v29
  let v1573 : BitVec 32 := Scalar.muli c2_i32_1179 v1571
  let v1574 : BitVec 32 := Scalar.addi v1572 v1573
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1575 : BitVec 32 := Scalar.xori v40 v1571
  let v1576 : BitVec 32 := Scalar.addi v1574 v1575
  let c1_i32_1182 : BitVec 32 := 1#32
  let v1577 : BitVec 32 := Scalar.muli v1576 c1_i32_1182
  let v1578 : BitVec 32 := Scalar.addi c0_i32_1183 v1577
  v1578.toNat
def k0_dev43 (d0 : Dev nD) : Nat :=
  let c0_i32_1214 : BitVec 32 := 0#32
  let c4_i32_1209 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1608 : BitVec 32 := Scalar.muli c4_i32_1209 v57
  let c2_i32_1210 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1609 : BitVec 32 := Scalar.muli c2_i32_1210 v29
  let v1610 : BitVec 32 := Scalar.addi v1608 v1609
  let c1_i32_1208 : BitVec 32 := 1#32
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1607 : BitVec 32 := Scalar.subi c1_i32_1208 v40
  let v1611 : BitVec 32 := Scalar.xori v1607 v29
  let v1612 : BitVec 32 := Scalar.addi v1610 v1611
  let c1_i32_1213 : BitVec 32 := 1#32
  let v1613 : BitVec 32 := Scalar.muli v1612 c1_i32_1213
  let v1614 : BitVec 32 := Scalar.addi c0_i32_1214 v1613
  v1614.toNat
def k0_dev44 (d0 : Dev nD) : Nat :=
  let c0_i32_1245 : BitVec 32 := 0#32
  let c4_i32_1240 : BitVec 32 := 4#32
  let c1_i32_1239 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1643 : BitVec 32 := Scalar.subi c1_i32_1239 v57
  let v1644 : BitVec 32 := Scalar.muli c4_i32_1240 v1643
  let c2_i32_1241 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1645 : BitVec 32 := Scalar.muli c2_i32_1241 v29
  let v1646 : BitVec 32 := Scalar.addi v1644 v1645
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1647 : BitVec 32 := Scalar.xori v40 v29
  let v1648 : BitVec 32 := Scalar.addi v1646 v1647
  let c1_i32_1244 : BitVec 32 := 1#32
  let v1649 : BitVec 32 := Scalar.muli v1648 c1_i32_1244
  let v1650 : BitVec 32 := Scalar.addi c0_i32_1245 v1649
  v1650.toNat
def k0_dev45 (d0 : Dev nD) : Nat :=
  let c0_i32_1276 : BitVec 32 := 0#32
  let c4_i32_1271 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v42 : BitVec 1 := Scalar.cmpi .sgt v2 c0_i32_17
  let v43 : BitVec 32 := Scalar.extui v42
  let c0_i32_18 : BitVec 32 := 0#32
  let v44 : BitVec 1 := Scalar.cmpi .slt v2 c0_i32_18
  let v45 : BitVec 32 := Scalar.extui v44
  let v46 : BitVec 32 := Scalar.subi v43 v45
  let c4_i32_16 : BitVec 32 := 4#32
  let c0_i32_19 : BitVec 32 := 0#32
  let v47 : BitVec 1 := Scalar.cmpi .sgt c4_i32_16 c0_i32_19
  let v48 : BitVec 32 := Scalar.extui v47
  let c0_i32_20 : BitVec 32 := 0#32
  let v49 : BitVec 1 := Scalar.cmpi .slt c4_i32_16 c0_i32_20
  let v50 : BitVec 32 := Scalar.extui v49
  let v51 : BitVec 32 := Scalar.subi v48 v50
  let v52 : BitVec 1 := Scalar.cmpi .ne v46 v51
  let v53 : BitVec 32 := Scalar.remsi v2 c4_i32_16
  let c0_i32_21 : BitVec 32 := 0#32
  let v54 : BitVec 1 := Scalar.cmpi .ne v53 c0_i32_21
  let v55 : BitVec 1 := Scalar.andi v52 v54
  let v41 : BitVec 32 := Scalar.divsi v2 c4_i32_16
  let c1_i32_22 : BitVec 32 := 1#32
  let v56 : BitVec 32 := Scalar.subi v41 c1_i32_22
  let v57 : BitVec 32 := Scalar.select v55 v56 v41
  let v1680 : BitVec 32 := Scalar.muli c4_i32_1271 v57
  let c2_i32_1272 : BitVec 32 := 2#32
  let c1_i32_1270 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi v12 c2_i32
  let c0_i32_8 : BitVec 32 := 0#32
  let v26 : BitVec 1 := Scalar.cmpi .ne v25 c0_i32_8
  let v27 : BitVec 1 := Scalar.andi v24 v26
  let v13 : BitVec 32 := Scalar.divsi v12 c2_i32
  let c1_i32_9 : BitVec 32 := 1#32
  let v28 : BitVec 32 := Scalar.subi v13 c1_i32_9
  let v29 : BitVec 32 := Scalar.select v27 v28 v13
  let v1679 : BitVec 32 := Scalar.subi c1_i32_1270 v29
  let v1681 : BitVec 32 := Scalar.muli c2_i32_1272 v1679
  let v1682 : BitVec 32 := Scalar.addi v1680 v1681
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : BitVec 32 := Scalar.xori v39 v29
  let v1683 : BitVec 32 := Scalar.xori v40 v1679
  let v1684 : BitVec 32 := Scalar.addi v1682 v1683
  let c1_i32_1275 : BitVec 32 := 1#32
  let v1685 : BitVec 32 := Scalar.muli v1684 c1_i32_1275
  let v1686 : BitVec 32 := Scalar.addi c0_i32_1276 v1685
  v1686.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Proto.lean ====
/-
# The protocol of the eight-device reduce-scatter matmul

The eight devices are the corners of a cube; `flip d c` is the neighbour of `c` across dimension `d` (0, 1, 2 for
x, y, z). The columns of the result are cut into six streams; stream `t` makes seven exchanges `e`, each across one
dimension (`dim t e`), so an exchange is a key `(t, e)`. Exchange `(t, e)` copies device `c`'s send slot `srcM t e` onto
`peer t e c`'s landing slot `dstM t e`, crediting one send and one receive semaphore of its own.

At entry each device signals the barrier semaphore of its three neighbours and waits for three. Neighbour `flip d c`'s
unit hands `c` the landing slots of `flip d c` for all the keys of dimension `d`. A receive cell hands over the landing
slot holding what the peer sent; a send cell hands the send slot back, contents unchanged.

What is sent (`sent`) and what lands (`landed`) are named here in the payloads of the printed kernel.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the cube's (duties the three dimensions) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cube -/

/-- Crossing x changes the last bit of the position, crossing y the last two, crossing z the first. -/
def mask : Fin 3 → ℕ | 0 => 1 | 1 => 3 | 2 => 4

theorem flip_lt (d : Fin 3) (c : Dev nD) : c.val ^^^ mask d < nD := by revert c d; decide
/-- The neighbour of `c` across dimension `d`. -/
def flip (d : Fin 3) (c : Dev nD) : Dev nD := ⟨c.val ^^^ mask d, flip_lt d c⟩
theorem flip_flip (d : Fin 3) (c : Dev nD) : flip d (flip d c) = c := by revert c d; decide
theorem flip_inj_dim {d d' : Fin 3} {c : Dev nD} (h : flip d c = flip d' c) : d = d' := by revert c d d'; decide
def flipE (d : Fin 3) : Dev nD ≃ Dev nD := ⟨flip d, flip d, flip_flip d, flip_flip d⟩

abbrev Key : Type := Fin 6 × Fin 7

/-- The three dimensions of stream `t`, in the order it crosses them. -/
def dimA : Fin 6 → Fin 3 | 0 => 2 | 1 => 1 | 2 => 0 | 3 => 2 | 4 => 1 | 5 => 0
def dimB : Fin 6 → Fin 3 | 0 => 1 | 1 => 0 | 2 => 2 | 3 => 1 | 4 => 0 | 5 => 2
def dimC : Fin 6 → Fin 3 | 0 => 0 | 1 => 2 | 2 => 1 | 3 => 0 | 4 => 2 | 5 => 1
/-- The dimension exchange `e` of stream `t` crosses. -/
def dim (t : Fin 6) : Fin 7 → Fin 3 | 0 => dimA t | 1 => dimA t | 2 => dimA t | 3 => dimA t | 4 => dimB t | 5 => dimB t | 6 => dimC t

abbrev peer (t : Fin 6) (e : Fin 7) (c : Dev nD) : Dev nD := flip (dim t e) c
theorem peer_peer (t : Fin 6) (e : Fin 7) (c : Dev nD) : peer t e (peer t e c) = c := flip_flip _ c

/-! ## Shapes, buffers, slots -/

/-- The width of stream `t`, and the height of the buffer holding the slot of exchange `e`. -/
@[reducible] def W : Fin 6 → ℕ | 0 => 384 | 1 => 384 | 2 => 384 | 3 => 320 | 4 => 256 | 5 => 320
@[reducible] def H : Fin 7 → ℕ | 0 => 1024 | 1 => 1024 | 2 => 1024 | 3 => 1024 | 4 => 512 | 5 => 512 | 6 => 256
@[reducible] def col0 : Fin 6 → ℕ | 0 => 0 | 1 => 384 | 2 => 768 | 3 => 1152 | 4 => 1472 | 5 => 1728
abbrev TV (t : Fin 6) : Shape := ⟨2, ![256, W t]⟩
abbrev TB (t : Fin 6) (e : Fin 7) : Shape := ⟨2, ![H e, W t]⟩

def rows : Fin 7 → Fin 2 → ℕ | 0 => ![0, 0] | 1 => ![256, 0] | 2 => ![512, 0] | 3 => ![768, 0] | 4 => ![0, 0] | 5 => ![256, 0] | 6 => ![0, 0]
def cols : Fin 6 → Fin 2 → ℕ | 0 => ![0, 0] | 1 => ![0, 384] | 2 => ![0, 768] | 3 => ![0, 1152] | 4 => ![0, 1472] | 5 => ![0, 1728]

theorem rows_inb (t : Fin 6) (e : Fin 7) : ∀ a, rows e a + (TV t).size a ≤ (TB t e).size a := by revert t e; decide
theorem cols_inb (t : Fin 6) : ∀ a, cols t a + (TV t).size a ≤ S256x2048.size a := by revert t; decide

/-- The rows of a slot within its buffer; the columns of stream `t` within the right factor and within the result. -/
abbrev rect (t : Fin 6) (e : Fin 7) : Rect (TB t e) := Rect.unit (s := TB t e) (rows e) (TV t).size (rows_inb t e)
abbrev crect (t : Fin 6) : Rect S256x2048 := Rect.unit (s := S256x2048) (cols t) (TV t).size (cols_inb t)

def s1M : (t : Fin 6) → Memref sig .tc .vmem ⟨2, ![1024, W t]⟩ .bf16
  | 0 => Memref.whole cc0_scratch2 | 1 => Memref.whole cc0_scratch10 | 2 => Memref.whole cc0_scratch18
  | 3 => Memref.whole cc0_scratch26 | 4 => Memref.whole cc0_scratch34 | 5 => Memref.whole cc0_scratch42
def r1M : (t : Fin 6) → Memref sig .tc .vmem ⟨2, ![1024, W t]⟩ .bf16
  | 0 => Memref.whole cc0_scratch3 | 1 => Memref.whole cc0_scratch11 | 2 => Memref.whole cc0_scratch19
  | 3 => Memref.whole cc0_scratch27 | 4 => Memref.whole cc0_scratch35 | 5 => Memref.whole cc0_scratch43
def s2M : (t : Fin 6) → Memref sig .tc .vmem ⟨2, ![512, W t]⟩ .bf16
  | 0 => Memref.whole cc0_scratch4 | 1 => Memref.whole cc0_scratch12 | 2 => Memref.whole cc0_scratch20
  | 3 => Memref.whole cc0_scratch28 | 4 => Memref.whole cc0_scratch36 | 5 => Memref.whole cc0_scratch44
def r2M : (t : Fin 6) → Memref sig .tc .vmem ⟨2, ![512, W t]⟩ .bf16
  | 0 => Memref.whole cc0_scratch5 | 1 => Memref.whole cc0_scratch13 | 2 => Memref.whole cc0_scratch21
  | 3 => Memref.whole cc0_scratch29 | 4 => Memref.whole cc0_scratch37 | 5 => Memref.whole cc0_scratch45
def s3M : (t : Fin 6) → Memref sig .tc .vmem ⟨2, ![256, W t]⟩ .bf16
  | 0 => Memref.whole cc0_scratch6 | 1 => Memref.whole cc0_scratch14 | 2 => Memref.whole cc0_scratch22
  | 3 => Memref.whole cc0_scratch30 | 4 => Memref.whole cc0_scratch38 | 5 => Memref.whole cc0_scratch46
def r3M : (t : Fin 6) → Memref sig .tc .vmem ⟨2, ![256, W t]⟩ .bf16
  | 0 => Memref.whole cc0_scratch7 | 1 => Memref.whole cc0_scratch15 | 2 => Memref.whole cc0_scratch23
  | 3 => Memref.whole cc0_scratch31 | 4 => Memref.whole cc0_scratch39 | 5 => Memref.whole cc0_scratch47

/-- The buffer of the send slot, and of the landing slot, of exchange `(t, e)`; -/
def srcB (t : Fin 6) : (e : Fin 7) → Memref sig .tc .vmem (TB t e) .bf16
  | 0 => s1M t | 1 => s1M t | 2 => s1M t | 3 => s1M t | 4 => s2M t | 5 => s2M t | 6 => s3M t
def dstB (t : Fin 6) : (e : Fin 7) → Memref sig .tc .vmem (TB t e) .bf16
  | 0 => r1M t | 1 => r1M t | 2 => r1M t | 3 => r1M t | 4 => r2M t | 5 => r2M t | 6 => r3M t
/-- the slots. -/
abbrev srcM (t : Fin 6) (e : Fin 7) : Memref sig .tc .vmem (TV t) .bf16 := (srcB t e).slice (rect t e) (fun _ => rfl)
abbrev dstM (t : Fin 6) (e : Fin 7) : Memref sig .tc .vmem (TV t) .bf16 := (dstB t e).slice (rect t e) (fun _ => rfl)
/-- The slots as the transfers name them: the last exchange moves whole buffers. -/
def srcD (t : Fin 6) : (e : Fin 7) → Memref sig .tc .vmem (TV t) .bf16
  | 0 => srcM t 0 | 1 => srcM t 1 | 2 => srcM t 2 | 3 => srcM t 3 | 4 => srcM t 4 | 5 => srcM t 5 | 6 => s3M t
def dstD (t : Fin 6) : (e : Fin 7) → Memref sig .tc .vmem (TV t) .bf16
  | 0 => dstM t 0 | 1 => dstM t 1 | 2 => dstM t 2 | 3 => dstM t 3 | 4 => dstM t 4 | 5 => dstM t 5 | 6 => r3M t

abbrev xM : Memref sig .tc .vmem S2048x256 .f32 := Memref.whole cc0_stg0_0
abbrev wM : Memref sig .tc .vmem S256x2048 .f32 := Memref.whole cc0_stg1_0
abbrev oM : Memref sig .tc .vmem S256x2048 .f32 := Memref.whole cc0_stg2_0
abbrev xbM : Memref sig .tc .vmem S2048x256 .bf16 := Memref.whole cc0_scratch0
abbrev wbM : Memref sig .tc .vmem S256x2048 .bf16 := Memref.whole cc0_scratch1
/-- Stream `t`'s columns of the result. -/
abbrev outM (t : Fin 6) : Memref sig .tc .vmem (TV t) .f32 := oM.slice (crect t) (fun _ => rfl)

/-! ## Cells -/

/-- The runtime's barrier semaphore (unscoped). -/
abbrev barS : Sem sig := (SemArray.scalar (sig.barrier 0 rfl) : Sems sig S_).sem
theorem sendQ_lt (t : Fin 6) (e : Fin 7) : 3 + 14 * t.val + e.val < 87 := by omega
theorem recvQ_lt (t : Fin 6) (e : Fin 7) : 10 + 14 * t.val + e.val < 87 := by omega
def sendQ (t : Fin 6) (e : Fin 7) : DmaSem sig := ⟨3 + 14 * t.val + e.val, sendQ_lt t e⟩
def recvQ (t : Fin 6) (e : Fin 7) : DmaSem sig := ⟨10 + 14 * t.val + e.val, recvQ_lt t e⟩

abbrev barCell (c : Dev nD) : GSem nD τ sig := ((c : Thread nD τ), .reg barS)
abbrev sendCell (t : Fin 6) (e : Fin 7) (c : Dev nD) : GSem nD τ sig := ((c : Thread nD τ), .dma (sendQ t e))
abbrev recvCell (t : Fin 6) (e : Fin 7) (c : Dev nD) : GSem nD τ sig := ((c : Thread nD τ), .dma (recvQ t e))

/-- The credit of one transfer of exchange `(t, e)`. -/
def N (t : Fin 6) (e : Fin 7) : ℕ := (dstD t e).view.dmaCredit
theorem N_pos (t : Fin 6) (e : Fin 7) : 0 < N t e := View.dmaCredit_pos _ (by revert t e; decide)
theorem N_src (t : Fin 6) (e : Fin 7) : (srcD t e).view.dmaCredit = N t e := by
  fin_cases t <;> fin_cases e <;> rfl

/-- Which key, and which side (`true` the receiver's), a DMA semaphore serves. -/
def keyOf (q : DmaSem sig) : Option (Bool × Key) :=
  if h : 3 ≤ q.val ∧ q.val < 87 then
    some (decide (7 ≤ (q.val - 3) % 14), ⟨(q.val - 3) / 14, by omega⟩, ⟨(q.val - 3) % 7, by omega⟩)
  else none
theorem keyOf_send (t : Fin 6) (e : Fin 7) : keyOf (sendQ t e) = some (false, t, e) := by revert t e; decide
theorem keyOf_recv (t : Fin 6) (e : Fin 7) : keyOf (recvQ t e) = some (true, t, e) := by revert t e; decide

/-! ## Contents -/

/-- Device `c`'s blocks of the two arguments, as staged, and their roundings. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def xb (c : Dev nD) : Vec F S2048x256 .bf16 := k0_pay1 (xstg m c)
def wb (c : Dev nD) : Vec F S256x2048 .bf16 := k0_pay2 (wstg m c)

/-- The seven row offsets the kernel computes for the blocks it multiplies for others, which of them exchange `(t, e)` uses, -/
def offs : Fin 7 → Dev nD → Fin 2 → ℕ
  | 0 => k0_off1 | 1 => k0_off2 | 2 => k0_off3 | 3 => k0_off4 | 4 => k0_off5 | 5 => k0_off6 | 6 => k0_off7
theorem offs_inb (c : Dev nD) : (i : Fin 7) → ∀ a, offs i c a + S256x256.size a ≤ S2048x256.size a
  | 0 => k0_off1_inb c | 1 => k0_off2_inb c | 2 => k0_off3_inb c | 3 => k0_off4_inb c | 4 => k0_off5_inb c
  | 5 => k0_off6_inb c | 6 => k0_off7_inb c
def offIx (t : Fin 6) : Fin 7 → Fin 7
  | 0 => 0
  | 1 => (![1, 2, 3, 1, 2, 3] : Fin 6 → Fin 7) t
  | 2 => (![3, 1, 2, 3, 1, 2] : Fin 6 → Fin 7) t
  | 3 => (![4, 5, 6, 4, 5, 6] : Fin 6 → Fin 7) t
  | 4 => (![2, 3, 1, 2, 3, 1] : Fin 6 → Fin 7) t
  | 5 => (![5, 6, 4, 5, 6, 4] : Fin 6 → Fin 7) t
  | 6 => (![6, 4, 5, 6, 4, 5] : Fin 6 → Fin 7) t
/-- and so where its rows of the left factor start. -/
abbrev offOf (t : Fin 6) (e : Fin 7) (c : Dev nD) : Fin 2 → ℕ := offs (offIx t e) c
theorem offOf_inb (t : Fin 6) (e : Fin 7) (c : Dev nD) : ∀ a, offOf t e c a + S256x256.size a ≤ S2048x256.size a := offs_inb c _

/-- A block of 256 rows of the rounded left factor, and stream `t`'s columns of the rounded right factor. -/
def xblk (c : Dev nD) (off : Fin 2 → ℕ) (h : ∀ a, off a + S256x256.size a ≤ S2048x256.size a) : Vec F S256x256 .bf16 :=
  (xbM.access (Rect.unit (s := S2048x256) off S256x256.size h) : View sig .tc _ _ _).read (Elt F) (xb m c)
def wblk (c : Dev nD) (t : Fin 6) : Vec F (TV t) .bf16 :=
  (wbM.access (crect t) : View sig .tc _ _ _).read (Elt F) (wb m c)

/-- The product of two blocks, rounded; not rounded; the sum of two, of three terms, rounded; and the last step, the sum
    of the four terms and its product with its logistic. -/
def mmB : (t : Fin 6) → Vec F S256x256 .bf16 → Vec F (TV t) .bf16 → Vec F (TV t) .bf16
  | 0 => k0_pay10 | 1 => k0_pay11 | 2 => k0_pay12 | 3 => k0_pay13 | 4 => k0_pay14 | 5 => k0_pay15
def mmF : (t : Fin 6) → Vec F S256x256 .bf16 → Vec F (TV t) .bf16 → Vec F (TV t) .f32
  | 0 => k0_pay59 | 1 => k0_pay61 | 2 => k0_pay63 | 3 => k0_pay65 | 4 => k0_pay67 | 5 => k0_pay69
def add2 : (t : Fin 6) → Vec F (TV t) .bf16 → Vec F (TV t) .bf16 → Vec F (TV t) .bf16
  | 0 => k0_pay52 | 1 => k0_pay53 | 2 => k0_pay54 | 3 => k0_pay55 | 4 => k0_pay56 | 5 => k0_pay57
def add3 : (t : Fin 6) → Vec F (TV t) .bf16 → Vec F (TV t) .bf16 → Vec F (TV t) .bf16 → Vec F (TV t) .bf16
  | 0 => k0_pay70 | 1 => fun s r r' => k0_pay72 (k0_pay71 s r r') | 2 => fun s r r' => k0_pay74 (k0_pay73 s) r r'
  | 3 => k0_pay75 | 4 => k0_pay76 | 5 => k0_pay77
def fin4 : (t : Fin 6) → Vec F (TV t) .f32 → Vec F (TV t) .bf16 → Vec F (TV t) .bf16 → Vec F (TV t) .bf16 → Vec F (TV t) .f32
  | 0 => fun o r r' r'' => k0_pay80 (k0_pay78 o r) (k0_pay79 r') r'' | 1 => fun o r r' r'' => k0_pay82 (k0_pay81 o r) r' r''
  | 2 => fun o r r' r'' => k0_pay84 (k0_pay83 o) r r' r'' | 3 => k0_pay85 | 4 => k0_pay86 | 5 => k0_pay87

/-- Device `c`'s own term of exchange `(t, e)`, and of its own block of the result. -/
def part (c : Dev nD) (t : Fin 6) (e : Fin 7) : Vec F (TV t) .bf16 := mmB t (xblk m c (offOf t e c) (offOf_inb t e c)) (wblk m c t)
def own0 (c : Dev nD) (t : Fin 6) : Vec F (TV t) .f32 := mmF t (xblk m c (k0_off8 c) (k0_off8_inb c)) (wblk m c t)

/-- What device `c` sends in exchanges 4 and 5: its term and what landed of exchange 0, or 1. -/
def sent4 (c : Dev nD) (t : Fin 6) : Vec F (TV t) .bf16 := add2 t (part m c t 4) (part m (peer t 0 c) t 0)
def sent5 (c : Dev nD) (t : Fin 6) : Vec F (TV t) .bf16 := add2 t (part m c t 5) (part m (peer t 1 c) t 1)
/-- What device `c` sends in exchange `(t, e)`. -/
def sent (c : Dev nD) (t : Fin 6) : Fin 7 → Vec F (TV t) .bf16
  | 0 => part m c t 0 | 1 => part m c t 1 | 2 => part m c t 2 | 3 => part m c t 3
  | 4 => sent4 m c t | 5 => sent5 m c t
  | 6 => add3 t (part m c t 6) (part m (peer t 2 c) t 2) (sent4 m (peer t 4 c) t)
/-- What lands on device `c` in exchange `(t, e)`. -/
def landed (c : Dev nD) (t : Fin 6) (e : Fin 7) : Vec F (TV t) .bf16 := sent m (peer t e c) t e
/-- Device `c`'s block of the result, stream `t`'s columns. -/
def outv (c : Dev nD) (t : Fin 6) : Vec F (TV t) .f32 := fin4 t (own0 m c t) (landed m c t 3) (landed m c t 5) (landed m c t 6)

/-! ## The schedule -/

/-- The whole of memref `M` of device `c`, holding `X`. -/
abbrev has (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X

/-- What `flip d c`'s unit on `c`'s barrier hands over: `flip d c`'s landing slots for the keys of dimension `d`. -/
def barPay (c : Dev nD) (d : Fin 3) : sProp 𝕄 :=
  bigSep Finset.univ fun k : Key => if dim k.1 k.2 = d then iprop(∃ X, has (F := F) (flip d c) (dstM k.1 k.2) X) else iprop(emp)
def recvPay (c : Dev nD) (k : Key) : sProp 𝕄 := has c (dstM k.1 k.2) (landed m c k.1 k.2)
def sendPay (c : Dev nD) (k : Key) : sProp 𝕄 := has c (srcM k.1 k.2) (sent m c k.1 k.2)

omit [FloatOps F] in
instance barPay_storable (c : Dev nD) (d : Fin 3) : BI.Storable (upEmb : UEmb _ 𝕄) (barPay (F := F) c d) := by
  unfold barPay
  have (k : Key) : BI.Storable (upEmb : UEmb _ 𝕄) (if dim k.1 k.2 = d then iprop(∃ X, has (F := F) (flip d c) (dstM k.1 k.2) X) else iprop(emp)) := by
    split <;> infer_instance
  infer_instance
instance recvPay_storable (c : Dev nD) (k : Key) : BI.Storable (upEmb : UEmb _ 𝕄) (recvPay (F := F) m c k) := by unfold recvPay; infer_instance
instance sendPay_storable (c : Dev nD) (k : Key) : BI.Storable (upEmb : UEmb _ 𝕄) (sendPay (F := F) m c k) := by unfold sendPay; infer_instance

/-- What a cell's round pays out under duty `d`. -/
def pay (c : Dev nD) (d : Fin 3) : SemLoc sig → sProp 𝕄
  | .reg _ => barPay c d
  | .dma q => match keyOf q with
    | some (true, k) => recvPay m c k
    | some (false, k) => sendPay m c k
    | none => iprop(emp)
def amt : SemLoc sig → ℕ
  | .reg _ => 1
  | .dma q => match keyOf q with
    | some (_, k) => N k.1 k.2
    | none => 1
def dut : SemLoc sig → Finset (Fin 3)
  | .reg q => if q = barS then Finset.univ else ∅
  | .dma q => match keyOf q with
    | some _ => {0}
    | none => ∅

theorem amt_pos (s : SemLoc sig) : 0 < amt s := by
  cases s with
  | reg q => exact Nat.one_pos
  | dma q => unfold amt; dsimp only; split; · exact N_pos _ _
             exact Nat.one_pos

instance pay_storable (c : Dev nD) (d : Fin 3) (s : SemLoc sig) : BI.Storable (upEmb : UEmb _ 𝕄) (pay (F := F) m c d s) := by
  cases s with
  | reg q => show BI.Storable _ (barPay c d); infer_instance
  | dma q => unfold pay; dsimp only; split <;> infer_instance

/-- One round, round 0: a barrier cell has a duty for each dimension, of one unit; a send or receive cell one duty, of the
    transfer's credit. -/
def rd : Rounds.Schedule (GSem nD τ sig) (Fin 3) 𝕄 where
  duties g r := if r = 0 ∧ g.1.2 = .tc then dut g.2 else ∅
  unitless _ := False
  amount g _ _ := amt g.2
  payload g _ d := pay m g.1.1 d g.2
  amount_pos g _ _ _ := amt_pos g.2

instance rd_payload_storable (g : GSem nD τ sig) (r : ℕ) (d : Fin 3) : BI.Storable (upEmb : UEmb _ 𝕄) ((rd (F := F) m).payload g r d) :=
  pay_storable m g.1.1 d g.2

section Sched
variable (t : Fin 6) (e : Fin 7) (c : Dev nD)

theorem duties_bar : (rd (F := F) m).duties (barCell c) 0 = Finset.univ := by
  dsimp only [rd]; rw [if_pos ⟨rfl, rfl⟩]; unfold dut; dsimp only; rw [if_pos rfl]
theorem duties_send : (rd (F := F) m).duties (sendCell t e c) 0 = {0} := by
  dsimp only [rd]; rw [if_pos ⟨rfl, rfl⟩]; unfold dut; dsimp only; rw [keyOf_send]
theorem duties_recv : (rd (F := F) m).duties (recvCell t e c) 0 = {0} := by
  dsimp only [rd]; rw [if_pos ⟨rfl, rfl⟩]; unfold dut; dsimp only; rw [keyOf_recv]
theorem duties_later (g : GSem nD τ sig) : ∀ r, 1 ≤ r → (rd (F := F) m).duties g r = ∅ :=
  fun r hr => by dsimp only [rd]; exact if_neg fun h => by omega
theorem amount_bar (d : Fin 3) : (rd (F := F) m).amount (barCell c) 0 d = 1 := rfl
theorem amount_send (d : Fin 3) : (rd (F := F) m).amount (sendCell t e c) 0 d = N t e := by
  show amt (.dma (sendQ t e)) = _; unfold amt; dsimp only; rw [keyOf_send]
theorem amount_recv (d : Fin 3) : (rd (F := F) m).amount (recvCell t e c) 0 d = N t e := by
  show amt (.dma (recvQ t e)) = _; unfold amt; dsimp only; rw [keyOf_recv]
theorem payload_bar (d : Fin 3) : (rd (F := F) m).payload (barCell c) 0 d = barPay c d := rfl
theorem payload_send (d : Fin 3) : (rd (F := F) m).payload (sendCell t e c) 0 d = sendPay m c (t, e) := by
  show pay m c d (.dma (sendQ t e)) = _; unfold pay; dsimp only; rw [keyOf_send]
theorem payload_recv (d : Fin 3) : (rd (F := F) m).payload (recvCell t e c) 0 d = recvPay m c (t, e) := by
  show pay m c d (.dma (recvQ t e)) = _; unfold pay; dsimp only; rw [keyOf_recv]

theorem expect_bar : (rd (F := F) m).expect (barCell c) 0 = 3 := by
  unfold Schedule.expect Schedule.amountOf; rw [duties_bar]; rfl
theorem expect_send : (rd (F := F) m).expect (sendCell t e c) 0 = N t e := by
  unfold Schedule.expect Schedule.amountOf; rw [duties_send, Finset.sum_singleton, amount_send]
theorem expect_recv : (rd (F := F) m).expect (recvCell t e c) 0 = N t e := by
  unfold Schedule.expect Schedule.amountOf; rw [duties_recv, Finset.sum_singleton, amount_recv]

theorem rest_bar : bigSep ((rd (F := F) m).duties (barCell c) 0 \ ∅) (fun d => (rd (F := F) m).payload (barCell c) 0 d)
    = bigSep Finset.univ fun d => barPay c d := by
  rw [Finset.sdiff_empty, duties_bar]; rfl
theorem rest_send : bigSep ((rd (F := F) m).duties (sendCell t e c) 0 \ ∅) (fun d => (rd (F := F) m).payload (sendCell t e c) 0 d) = sendPay m c (t, e) := by
  rw [Finset.sdiff_empty, duties_send, bigSep_singleton, payload_send]
theorem rest_recv : bigSep ((rd (F := F) m).duties (recvCell t e c) 0 \ ∅) (fun d => (rd (F := F) m).payload (recvCell t e c) 0 d) = recvPay m c (t, e) := by
  rw [Finset.sdiff_empty, duties_recv, bigSep_singleton, payload_recv]

end Sched

/-! ## What is owed; the levels -/

/-- What device `c` owes the receive cell of its peer in exchange `k`. -/
abbrev tal (c : Dev nD) (k : Key) : CellTallies nD τ sig Unit := tallyAt (recvCell k.1 k.2 (peer k.1 k.2 c)) () (N k.1 k.2)
/-- The receive credit still owed, when the exchanges satisfying `p` are not yet issued. -/
def owed (c : Dev nD) (p : Key → Bool) : CellTallies nD τ sig Unit := ∑ k, if p k then tal c k else 0
def O₁ (c : Dev nD) : CellTallies nD τ sig Unit := owed c (fun _ => true) + tallyAt (barCell (flip 2 c)) () 1
def O₂ (c : Dev nD) : CellTallies nD τ sig Unit := O₁ c + tallyAt (barCell (flip 1 c)) () 1
def O₀ (c : Dev nD) : CellTallies nD τ sig Unit := O₂ c + tallyAt (barCell (flip 0 c)) () 1

def L (g : GSem nD τ sig) : Finset Unit := if g.1.2 = .tc then {()} else ∅
/-- Exchanges 0 to 3 are level 2, 4 and 5 level 3, 6 level 4. -/
def klv : Fin 7 → ℕ | 0 => 2 | 1 => 2 | 2 => 2 | 3 => 2 | 4 => 3 | 5 => 3 | 6 => 4
/-- Barrier cells are at 1, receive cells at their exchange's level, everything else at 0. -/
def slv : SemLoc sig → ℕ
  | .reg _ => 1
  | .dma q => match keyOf q with
    | some (true, k) => klv k.2
    | _ => 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (t : Fin 6) (e : Fin 7) (c : Dev nD) (u : Unit) : lv (recvCell t e c) u = klv e := by
  show slv (.dma (recvQ t e)) = _; unfold slv; dsimp only; rw [keyOf_recv]
theorem klv_pos (e : Fin 7) : 1 < klv e := by revert e; decide

theorem owed_pos {c : Dev nD} {p : Key → Bool} {g : GSem nD τ sig} {u : Unit} (h : 0 < owed c p g u) :
    ∃ k : Key, p k = true ∧ g = recvCell k.1 k.2 (peer k.1 k.2 c) := by
  by_contra hn
  have h0 : owed c p g u = 0 := by
    unfold owed
    rw [Finset.sum_apply, Finsupp.finset_sum_apply]
    refine Finset.sum_eq_zero fun k _ => ?_
    by_cases hp : p k = true
    · rw [if_pos hp, tallyAt_apply, if_neg fun h' => hn ⟨k, hp, h'.1⟩]
    · rw [if_neg hp]; rfl
  omega

/-- Issuing exchange `k` takes its credit off what is owed. -/
theorem owed_send (c : Dev nD) {p q : Key → Bool} (k : Key) (hk : p k = true) (hk' : q k = false) (h : ∀ j, j ≠ k → q j = p j) :
    owed c p = owed c q + tal c k := by
  unfold owed
  rw [← Finset.add_sum_erase Finset.univ _ (Finset.mem_univ k), ← Finset.add_sum_erase Finset.univ (fun k => if q k = true then tal c k else 0) (Finset.mem_univ k),
    if_pos hk, if_neg (by rw [hk']; exact Bool.false_ne_true), zero_add, add_comm]
  congr 1
  exact Finset.sum_congr rfl fun j hj => by rw [h j (Finset.ne_of_mem_erase hj)]
theorem owed_none (c : Dev nD) {p : Key → Bool} (h : ∀ j, p j = false) : owed c p = 0 := by
  unfold owed; exact Finset.sum_eq_zero fun k _ => by rw [if_neg (by rw [h k]; exact Bool.false_ne_true)]

theorem O₀_pos {c : Dev nD} {g : GSem nD τ sig} {u : Unit} (h : 0 < O₀ c g u) :
    (∃ k : Key, g = recvCell k.1 k.2 (peer k.1 k.2 c)) ∨ ∃ d, g = barCell (flip d c) := by
  by_contra hn
  rw [not_or, not_exists, not_exists] at hn
  have h0 : owed c (fun _ => true) g u = 0 := by
    by_contra h1
    obtain ⟨k, _, hk⟩ := owed_pos (Nat.pos_of_ne_zero h1)
    exact hn.1 k hk
  unfold O₀ O₂ O₁ at h
  rw [Pi.add_apply, Finsupp.add_apply, Pi.add_apply, Finsupp.add_apply, Pi.add_apply, Finsupp.add_apply, h0, tallyAt_apply, tallyAt_apply, tallyAt_apply,
    if_neg (fun h' => hn.2 _ h'.1), if_neg (fun h' => hn.2 _ h'.1), if_neg (fun h' => hn.2 _ h'.1)] at h
  exact Nat.lt_irrefl 0 h

omit [FloatOps F] in
/-- A wait at a level below that of every exchange still to be issued. -/
theorem mayWait_owed (c : Dev nD) (s : SemLoc sig) (p : Key → Bool) (h : ∀ k, p k = true → slv s < klv k.2) :
    (levAts L lv : sProp 𝕄) ⊢ MayWait (c : Thread nD τ) s () (owed c p) :=
  MayOwe.of_cut (L := L) (lev := lv) (slv s) (fun q hq => by rw [Finset.mem_singleton.mp hq, L_tc]; exact Finset.mem_singleton_self _)
    (fun g u hg => by obtain ⟨k, _, rfl⟩ := owed_pos hg; exact Finset.mem_singleton_self _)
    (fun q hq => by rw [Finset.mem_singleton.mp hq]; exact le_refl _)
    (fun g u hg => by obtain ⟨k, hk, rfl⟩ := owed_pos hg; rw [lv_recv]; exact h k hk)

omit [FloatOps F] in
/-- The staging waits, at level 0, before and after the body. -/
theorem mayWait_stage (c : Dev nD) (s : SemLoc sig) (hs : slv s = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp]; exact hs.le)
      (fun g u hg => by
        rcases O₀_pos hg with ⟨k, rfl⟩ | ⟨d, rfl⟩
        · rw [lv_recv]; exact Nat.lt_of_lt_of_le Nat.one_pos (klv_pos _).le
        · exact Nat.one_pos)
  · rw [MayWait_zero]; iintro -; iempintro

end Cert.Cube
-- ==== Proof.Payloads.lean ====
/-
# The vector operations over the reals

Read over the extended reals, where changing a format changes nothing: a block product is a sum of products, the
additions are additions, and the last step is a quotient.
-/
module

public import proofs.«01_k».proof.Proof.Proto
public import Idealize.ShloMosaic.Lib.Pointwise

@[expose] public section

set_option maxRecDepth 16384

noncomputable section

namespace Cert.Cube

open Cert.KernelIdeal Cert.KernelIdeal.Gen
open Idealize.ShloMosaic

/-- `y / (1 + e⁻ʸ)`. -/
def silu (y : EReal) : EReal := Ideal.div y (1 + Ideal.exp (-y))

theorem one_add_exp_ne_zero (y : EReal) : 1 + Ideal.exp y ≠ 0 := by
  have h : 0 ≤ Ideal.exp y := by
    induction y with
    | bot => exact le_refl _
    | top => exact le_top
    | coe r => rw [Ideal.exp_coe]; exact_mod_cast (Real.exp_pos r).le
  have h1 : (0 : EReal) < 1 + Ideal.exp y := lt_of_lt_of_le zero_lt_one (le_add_of_nonneg_right h)
  exact h1.ne'

/-- The product with the logistic is the quotient, at the infinities too. -/
theorem mul_logistic (y : EReal) : y * Ideal.logistic y = silu y := by
  unfold silu Ideal.logistic Ideal.div
  rw [if_neg (one_add_exp_ne_zero _), if_neg (one_add_exp_ne_zero _), one_mul]

variable (t : Fin 6) (i : (TV t).Idx)

/-- The row of block `A` and the column of block `B` at entry `i` of a stream's block, multiplied. -/
def dotAt (A : Vec Ideal S256x256 .bf16) (B : Vec Ideal (TV t) .bf16) : EReal :=
  ∑ k : Fin 256, A (ix2 (i 0 : Fin 256) k) * B (ix2 k (i 1 : Fin (W t)))

theorem mmB_apply (A : Vec Ideal S256x256 .bf16) (B : Vec Ideal (TV t) .bf16) : mmB t A B i = dotAt t i A B := by
  unfold dotAt
  fin_cases t <;> simp only [mmB] <;> unfold_payloads <;> pointwise

theorem mmF_apply (A : Vec Ideal S256x256 .bf16) (B : Vec Ideal (TV t) .bf16) : mmF t A B i = dotAt t i A B := by
  unfold dotAt
  fin_cases t <;> simp only [mmF] <;> unfold_payloads <;> pointwise

theorem add2_apply (a b : Vec Ideal (TV t) .bf16) : add2 t a b i = (a i + b i : EReal) := by
  fin_cases t <;> simp only [add2] <;> unfold_payloads <;> pointwise

theorem add3_apply (a b d : Vec Ideal (TV t) .bf16) : add3 t a b d i = (a i + b i + d i : EReal) := by
  fin_cases t <;> simp only [add3] <;> unfold_payloads <;> pointwise

theorem fin4_apply (o : Vec Ideal (TV t) .f32) (a b d : Vec Ideal (TV t) .bf16) : fin4 t o a b d i = silu (o i + a i + b i + d i : EReal) := by
  rw [← mul_logistic]
  fin_cases t <;> simp only [fin4] <;> unfold_payloads <;> pointwise

end Cert.Cube
-- ==== Proof.Steps.lean ====
/-
# One device's state during the run, and one rule per effect

`St R σ r o` is what device `c` holds between two effects: the cells' invariants, what it owes, the two rounded factors,
and for every exchange the state `σ` of its send slot and `r` of its landing slot, for every stream the state `o` of its
columns of the result. `R` is whatever else it holds. Each theorem below takes the first effect off a program and says how
the state changes.
-/
module

public import proofs.«01_k».proof.Proof.Proto

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The assertions. -/
abbrev PR (F : FTy → Type) : Type := sProp (MT nD τ sig Unit (Elt F) ℕ UU ℕ)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Slots by their buffers -/

section Slots
variable (c : Dev nD)

theorem has_full (b : Ref sig .tc) {off : Fin b.ty.shape.rank → ℕ} (h : off = fun _ => 0)
    (inb : ∀ a, off a + b.ty.shape.size a ≤ b.ty.shape.size a) (X : b.ty.shape.Idx → Elt F b.ty.elt) :
    has (F := F) c ((Memref.whole b).slice (Rect.unit off b.ty.shape.size inb) (fun _ => rfl)) X = has (F := F) c (Memref.whole b) X := by
  subst h
  unfold has owns
  refine congrArg _ (funext fun f => ?_)
  have hs : ((View.whole b).slice (Rect.unit (fun _ => 0) b.ty.shape.size inb)).set = Finset.univ := by
    rw [View.set_slice_whole]
    exact Finset.eq_univ_iff_forall.mpr fun y => by
      show y ∈ (Rect.whole b.ty.shape).set; rw [Rect.set_whole]; exact Finset.mem_univ y
  have hr : ((View.whole b).slice (Rect.unit (fun _ => 0) b.ty.shape.size inb)).read (Elt F) f = f :=
    Memref.read_access_unit_zero (Elt F) b rfl inb f
  have key (S S' : Finset b.ty.Idx) (g g' : b.ty.Contents (Elt F)) (hS : S = Finset.univ) (hS' : S' = Finset.univ) (hg : g = f) (hg' : g' = f) :
      (iprop(⌜g = X⌝ ∗ (((c : Thread nD τ).loc b) ↦[S]{fullShare} f)) : sProp 𝕄) = iprop(⌜g' = X⌝ ∗ (((c : Thread nD τ).loc b) ↦[S']{fullShare} f)) := by
    rw [hS, hS', hg, hg']
  exact key _ _ _ _ hs (View.set_whole b) hr (View.read_whole b f)

theorem rows_six : rows 6 = fun _ => 0 := funext fun a => by fin_cases a <;> rfl

/-- A slot named by its rectangle is the slot named as the transfers name it. -/
theorem has_srcD (t : Fin 6) (e : Fin 7) (X : (TV t).Idx → Elt F .bf16) : has c (srcM t e) X = has c (srcD t e) X := by
  match e with
  | 0 => rfl | 1 => rfl | 2 => rfl | 3 => rfl | 4 => rfl | 5 => rfl
  | 6 =>
    match t with
    | 0 => exact has_full c cc0_scratch6 rows_six (rows_inb 0 6) X
    | 1 => exact has_full c cc0_scratch14 rows_six (rows_inb 1 6) X
    | 2 => exact has_full c cc0_scratch22 rows_six (rows_inb 2 6) X
    | 3 => exact has_full c cc0_scratch30 rows_six (rows_inb 3 6) X
    | 4 => exact has_full c cc0_scratch38 rows_six (rows_inb 4 6) X
    | 5 => exact has_full c cc0_scratch46 rows_six (rows_inb 5 6) X
theorem has_dstD (t : Fin 6) (e : Fin 7) (X : (TV t).Idx → Elt F .bf16) : has c (dstM t e) X = has c (dstD t e) X := by
  match e with
  | 0 => rfl | 1 => rfl | 2 => rfl | 3 => rfl | 4 => rfl | 5 => rfl
  | 6 =>
    match t with
    | 0 => exact has_full c cc0_scratch7 rows_six (rows_inb 0 6) X
    | 1 => exact has_full c cc0_scratch15 rows_six (rows_inb 1 6) X
    | 2 => exact has_full c cc0_scratch23 rows_six (rows_inb 2 6) X
    | 3 => exact has_full c cc0_scratch31 rows_six (rows_inb 3 6) X
    | 4 => exact has_full c cc0_scratch39 rows_six (rows_inb 4 6) X
    | 5 => exact has_full c cc0_scratch47 rows_six (rows_inb 5 6) X

variable {sp : CoreSpace} {s : Shape} {e : EltTy} {α : Type} {Q : α → PR F}

/-- A load of an owned slot reads its contents; -/
theorem load_slot (M : Memref sig .tc sp s e) (r : Rect s) (hr : ∀ a, r.stride a = 1) (X : r.shape.Idx → Elt F e)
    {hl : M.view.LoadsAt r.toLoadRect} {k : (r.shape.Idx → Elt F e) → Prog (TpuEff nD τ sig (Elt F) Λ₀ .tc) α} :
    has (F := F) c (M.slice r hr) X ⊢ iprop((has c (M.slice r hr) X -∗ WP c (k X) Q) -∗ WP c (.op (.load M r.toLoadRect hl) k) Q) := by
  unfold has owns
  iintro ⟨%f, %hf, H⟩ Hk
  iapply (wp_load_rect 𝒱₀ (c : Thread nD τ) none Set.univ (m := M) (r := r) (f := f) (Finset.Subset.refl _)) $$ H
  iintro H
  rw [show (M.access r : View sig .tc _ _ _).read (Elt F) f = X from hf]
  iapply Hk
  iexists f
  isplitr; · ipureintro; exact hf
  iexact H

/-- a load through a rectangle of a whole buffer reads that part of its contents; -/
theorem load_part (M : Memref sig .tc sp s e) (r : Rect s) (X : s.Idx → Elt F e) (q : PosShare TreeShare)
    {hl : M.view.LoadsAt r.toLoadRect} {k : (r.shape.Idx → Elt F e) → Prog (TpuEff nD τ sig (Elt F) Λ₀ .tc) α} :
    (owns (Ix := Unit) (Name := ℕ) (U := UU) (Lvl := ℕ) (c : Thread nD τ) M q X : sProp 𝕄)
      ⊢ iprop((owns (Ix := Unit) (Name := ℕ) (U := UU) (Lvl := ℕ) (c : Thread nD τ) M q X -∗ WP c (k (fun j => X (r.emb j))) Q)
          -∗ WP c (.op (.load M r.toLoadRect hl) k) Q) := by
  unfold owns
  iintro ⟨%f, %hf, H⟩ Hk
  iapply (wp_load_rect 𝒱₀ (c : Thread nD τ) none Set.univ (m := M) (r := r) (f := f) (View.set_slice_subset _ _)) $$ H
  iintro H
  rw [show (M.access r : View sig .tc _ _ _).read (Elt F) f = (fun j => X (r.emb j)) from by rw [← hf]; rfl]
  iapply Hk
  iexists f
  isplitr; · ipureintro; exact hf
  iexact H

/-- a store into an owned slot leaves what was stored. -/
theorem store_slot (M : Memref sig .tc sp s e) (r : Rect s) (hr : ∀ a, r.stride a = 1) (X w : r.shape.Idx → Elt F e)
    {hx : (M.access r : View sig .tc _ _ _).Stores Finset.univ} {hm : (Finset.univ : Finset r.shape.Idx) = Finset.univ ∨ ∀ a, r.stride a = 1}
    {k : PUnit → Prog (TpuEff nD τ sig (Elt F) Λ₀ .tc) α} :
    has (F := F) c (M.slice r hr) X ⊢ iprop((has c (M.slice r hr) w -∗ WP c (k ⟨⟩) Q) -∗ WP c (.op (.store M r w Finset.univ hx hm) k) Q) := by
  unfold has owns
  iintro ⟨%f, %hf, H⟩ Hk
  have hw := wp_store (defs := defs₀ (F := F)) 𝒱₀ (c : Thread nD τ) none (Γ := .empty) Set.univ (Q := Q) (m := M) (r := r) (w := w) (Mk := Finset.univ) (hx := hx) (hm := hm) (k := k) (f := f)
    (S := (M.access r).set) (Finset.Subset.refl _)
  iapply hw $$ H
  iintro H
  iapply Hk
  iexists _
  isplitr; · ipureintro; exact View.read_write_univ (v := (M.access r : View sig .tc _ _ _)) (Val := Elt F) f w
  iexact H

end Slots

/-! ## The cells together -/

variable (m : (ℓ : Loc nD τ sig) → Buf (Elt F) ℓ)

/-- A device's cells: the barrier's, and each exchange's send (`false`) and receive (`true`) cell. -/
abbrev CIx : Type := Option (Bool × Key)
def csem : CIx → SemLoc sig
  | none => .reg barS
  | some (false, k) => .dma (sendQ k.1 k.2)
  | some (true, k) => .dma (recvQ k.1 k.2)
def kcell (ci : Dev nD × CIx) : GSem nD τ sig := ((ci.1 : Thread nD τ), csem ci.2)

/-- The invariants of all the cells, and that each has reached round 0. -/
def recs (K : Dev nD × CIx → ℕ) : sProp 𝕄 :=
  iprop((bigSep Finset.univ fun ci : Dev nD × CIx => cellInv ER (rd m) (K ci) (kcell ci))
    ∗ bigSep Finset.univ fun ci : Dev nD × CIx => reached ER (kcell ci) 0)
instance recs_persistent (K : Dev nD × CIx → ℕ) : BI.Persistent (recs m K) := by unfold recs; infer_instance

theorem recs_inv (K : Dev nD × CIx → ℕ) (ci : Dev nD × CIx) : recs m K ⊢ cellInv ER (rd m) (K ci) (kcell ci) :=
  sep_elim_left.trans (bigSep_elim (Finset.mem_univ ci))
theorem recs_reached (K : Dev nD × CIx → ℕ) (ci : Dev nD × CIx) : recs m K ⊢ reached ER (kcell ci) 0 :=
  sep_elim_right.trans (bigSep_elim (Finset.mem_univ ci))

/-! ## The state -/

/-- A send slot: not written; holding its own term; holding what is to be sent; being sent; sent. -/
inductive Sl | junk | part | full | flying | done
deriving DecidableEq
/-- A block of columns of the result: not written; holding the device's own term; finished. -/
inductive Ol | junk | part | done
deriving DecidableEq

def Sl.pending : Sl → Bool | .junk => true | .part => true | .full => true | .flying => false | .done => false

section State
variable (c : Dev nD)

/-- What issuing exchange `(t, e)` needs besides the send slot: the peer's landing slot, the two duties, the position. -/
def pend (t : Fin 6) (e : Fin 7) : sProp 𝕄 :=
  iprop((∃ X, has (F := F) (peer t e c) (dstM t e) X) ∗ dutyTok ER (sendCell t e c) 0 0 ∗ dutyTok ER (recvCell t e (peer t e c)) 0 0
    ∗ atPos ER (sendCell t e c) 0 ∅ 0)

def srcSt (k : Key) : Sl → sProp 𝕄
  | .junk => iprop((∃ X, has (F := F) c (srcM k.1 k.2) X) ∗ pend c k.1 k.2)
  | .part => iprop(has c (srcM k.1 k.2) (part m c k.1 k.2) ∗ pend c k.1 k.2)
  | .full => iprop(has c (srcM k.1 k.2) (sent m c k.1 k.2) ∗ pend c k.1 k.2)
  | .flying => iprop(cred (tallyAt (sendCell k.1 k.2 c) () (N k.1 k.2)) ∗ atPos ER (sendCell k.1 k.2 c) 0 ∅ 0)
  | .done => iprop(has c (srcM k.1 k.2) (sent m c k.1 k.2) ∗ semVal (sendCell k.1 k.2 c) 0)
def dstSt (k : Key) : Bool → sProp 𝕄
  | false => iprop(cred (tallyAt (recvCell k.1 k.2 c) () (N k.1 k.2)) ∗ atPos ER (recvCell k.1 k.2 c) 0 ∅ 0)
  | true => iprop(has c (dstM k.1 k.2) (landed m c k.1 k.2) ∗ semVal (recvCell k.1 k.2 c) 0)
def outSt (t : Fin 6) : Ol → sProp 𝕄
  | .junk => iprop(∃ X, has (F := F) c (outM t) X)
  | .part => has c (outM t) (own0 m c t)
  | .done => has c (outM t) (outv m c t)

variable (K : Dev nD × CIx → ℕ) (R : PR F)

def St (σ : Key → Sl) (r : Key → Bool) (o : Fin 6 → Ol) : sProp 𝕄 :=
  iprop(R ∗ recs m K ∗ levAts L lv ∗ (∃ W : Waits sig Unit, owes (c : Thread nD τ) (owed c fun k => (σ k).pending) W)
    ∗ has c xbM (xb m c) ∗ has c wbM (wb m c)
    ∗ (bigSep Finset.univ fun k => srcSt m c k (σ k)) ∗ (bigSep Finset.univ fun k => dstSt m c k (r k))
    ∗ bigSep Finset.univ fun t => outSt m c t (o t))

variable {α : Type} {Q : α → PR F} {σ : Key → Sl} {r : Key → Bool} {o : Fin 6 → Ol}

/-- Any one send slot can be taken out, and put back in a state that owes the same. -/
theorem st_src (k : Key) : St m c K R σ r o ⊢ iprop(srcSt m c k (σ k)
    ∗ ∀ s, ⌜s.pending = (σ k).pending⌝ -∗ srcSt m c k s -∗ St m c K R (Function.update σ k s) r o) := by
  unfold St
  iintro ⟨HR, #Hi, #Hl, HO, Hx, Hw, Hs, Hr, Ho⟩
  ihave Hs := (bigSep_univ_turn (fun k s => srcSt m c k s) σ k) $$ Hs
  icases Hs with ⟨H, Hs⟩
  isplitl [H]; · iexact H
  iintro %s %hs H
  isplitl [HR]; · iexact HR
  isplitr; · iexact Hi
  isplitr; · iexact Hl
  isplitl [HO]
  · rw [show (fun j => (Function.update σ k s j).pending) = fun j => (σ j).pending from funext fun j => by
      by_cases h : j = k
      · subst h; rw [Function.update_self, hs]
      · rw [Function.update_of_ne h]]
    iexact HO
  isplitl [Hx]; · iexact Hx
  isplitl [Hw]; · iexact Hw
  isplitl [Hs H]
  · ispecialize Hs $$ %s
    iapply Hs
    iexact H
  isplitl [Hr] <;> iassumption

/-- Any block of columns of the result can be taken out and put back in any state. -/
theorem st_out (t : Fin 6) : St m c K R σ r o ⊢ iprop(outSt m c t (o t)
    ∗ ∀ s, outSt m c t s -∗ St m c K R σ r (Function.update o t s)) := by
  unfold St
  iintro ⟨HR, #Hi, #Hl, HO, Hx, Hw, Hs, Hr, Ho⟩
  ihave Ho := (bigSep_univ_turn (fun t s => outSt m c t s) o t) $$ Ho
  icases Ho with ⟨H, Ho⟩
  isplitl [H]; · iexact H
  iintro %s H
  isplitl [HR]; · iexact HR
  isplitr; · iexact Hi
  isplitr; · iexact Hl
  isplitl [HO]; · iexact HO
  isplitl [Hx]; · iexact Hx
  isplitl [Hw]; · iexact Hw
  isplitl [Hs]; · iexact Hs
  isplitl [Hr]; · iexact Hr
  ispecialize Ho $$ %s
  iapply Ho
  iexact H

/-- Any landing slot can be taken out with what is owed, and put back in another state. -/
theorem st_dst (k : Key) : St m c K R σ r o ⊢ iprop(dstSt m c k (r k) ∗ recs m K ∗ levAts L lv
    ∗ (∃ W : Waits sig Unit, owes (c : Thread nD τ) (owed c fun k => (σ k).pending) W)
    ∗ ∀ s, dstSt m c k s -∗ (∃ W : Waits sig Unit, owes (c : Thread nD τ) (owed c fun k => (σ k).pending) W)
        -∗ St m c K R σ (Function.update r k s) o) := by
  unfold St
  iintro ⟨HR, #Hi, #Hl, HO, Hx, Hw, Hs, Hr, Ho⟩
  ihave Hr := (bigSep_univ_turn (fun k s => dstSt m c k s) r k) $$ Hr
  icases Hr with ⟨H, Hr⟩
  isplitl [H]; · iexact H
  isplitr; · iexact Hi
  isplitr; · iexact Hl
  isplitl [HO]; · iexact HO
  iintro %s H HO
  isplitl [HR]; · iexact HR
  isplitr; · iexact Hi
  isplitr; · iexact Hl
  isplitl [HO]; · iexact HO
  isplitl [Hx]; · iexact Hx
  isplitl [Hw]; · iexact Hw
  isplitl [Hs]; · iexact Hs
  isplitr [Ho]
  · ispecialize Hr $$ %s
    iapply Hr
    iexact H
  iexact Ho

/-- A load of rows of the rounded left factor; -/
theorem st_ldx {off : Fin 2 → ℕ} {h : ∀ a, off a + S256x256.size a ≤ S2048x256.size a}
    {hl : (xbM : Memref sig .tc .vmem S2048x256 .bf16).view.LoadsAt (Rect.unit (s := S2048x256) off S256x256.size h).toLoadRect}
    {k : Vec F S256x256 .bf16 → Prog (TpuEff nD τ sig (Elt F) Λ₀ .tc) α} (hk : St m c K R σ r o ⊢ WP c (k (xblk m c off h)) Q) :
    St m c K R σ r o ⊢ WP c (.op (.load xbM (Rect.unit (s := S2048x256) off S256x256.size h).toLoadRect hl) k) Q := by
  unfold St at hk ⊢
  iintro ⟨HR, Hi, Hl, HO, Hx, Hrest⟩
  iapply (load_part c xbM (Rect.unit (s := S2048x256) off S256x256.size h) (xb m c) fullShare) $$ Hx
  iintro Hx
  iapply hk
  isplitl [HR]; · iexact HR
  isplitl [Hi]; · iexact Hi
  isplitl [Hl]; · iexact Hl
  isplitl [HO]; · iexact HO
  isplitl [Hx] <;> iassumption

/-- of stream `t`'s columns of the right factor; -/
theorem st_ldw (t : Fin 6)
    {hl : (wbM : Memref sig .tc .vmem S256x2048 .bf16).view.LoadsAt (crect t).toLoadRect}
    {k : Vec F (TV t) .bf16 → Prog (TpuEff nD τ sig (Elt F) Λ₀ .tc) α} (hk : St m c K R σ r o ⊢ WP c (k (wblk m c t)) Q) :
    St m c K R σ r o ⊢ WP c (.op (.load wbM (crect t).toLoadRect hl) k) Q := by
  unfold St at hk ⊢
  iintro ⟨HR, Hi, Hl, HO, Hx, Hw, Hrest⟩
  iapply (load_part c wbM (crect t) (wb m c) fullShare) $$ Hw
  iintro Hw
  iapply hk
  isplitl [HR]; · iexact HR
  isplitl [Hi]; · iexact Hi
  isplitl [Hl]; · iexact Hl
  isplitl [HO]; · iexact HO
  isplitl [Hx]; · iexact Hx
  isplitl [Hw] <;> iassumption

/-- of a send slot not written, whose value is anything; -/
theorem st_lds_junk (t : Fin 6) (e : Fin 7) (hσ : σ (t, e) = .junk)
    {hl : (srcB t e).view.LoadsAt (rect t e).toLoadRect}
    {k : Vec F (TV t) .bf16 → Prog (TpuEff nD τ sig (Elt F) Λ₀ .tc) α} (hk : ∀ v, St m c K R σ r o ⊢ WP c (k v) Q) :
    St m c K R σ r o ⊢ WP c (.op (.load (srcB t e) (rect t e).toLoadRect hl) k) Q := by
  refine (st_src m c K R (t, e)).trans ?_
  rw [hσ]
  unfold srcSt
  iintro ⟨⟨⟨%X, H⟩, Hp⟩, Hs⟩
  iapply (load_slot c (srcB t e) (rect t e) (fun _ => rfl) X) $$ H
  iintro H
  iapply (hk X)
  ispecialize Hs $$ %Sl.junk
  rw [show Function.update σ (t, e) Sl.junk = σ from by rw [← hσ]; exact Function.update_eq_self _ _]
  iapply Hs
  · ipureintro; rfl
  isplitl [H]; · iexists X; iexact H
  iexact Hp

/-- of a send slot holding the device's own term; -/
theorem st_lds_part (t : Fin 6) (e : Fin 7) (hσ : σ (t, e) = .part)
    {hl : (srcB t e).view.LoadsAt (rect t e).toLoadRect}
    {k : Vec F (TV t) .bf16 → Prog (TpuEff nD τ sig (Elt F) Λ₀ .tc) α} (hk : St m c K R σ r o ⊢ WP c (k (part m c t e)) Q) :
    St m c K R σ r o ⊢ WP c (.op (.load (srcB t e) (rect t e).toLoadRect hl) k) Q := by
  refine (st_src m c K R (t, e)).trans ?_
  rw [hσ]
  unfold srcSt
  iintro ⟨⟨H, Hp⟩, Hs⟩
  iapply (load_slot c (srcB t e) (rect t e) (fun _ => rfl) (part m c t e)) $$ H
  iintro H
  iapply hk
  ispecialize Hs $$ %Sl.part
  rw [show Function.update σ (t, e) Sl.part = σ from by rw [← hσ]; exact Function.update_eq_self _ _]
  iapply Hs
  · ipureintro; rfl
  isplitl [H] <;> iassumption

/-- of a landing slot where something has landed. -/
theorem st_ldr (t : Fin 6) (e : Fin 7) (hr : r (t, e) = true)
    {hl : (dstB t e).view.LoadsAt (rect t e).toLoadRect}
    {k : Vec F (TV t) .bf16 → Prog (TpuEff nD τ sig (Elt F) Λ₀ .tc) α} (hk : St m c K R σ r o ⊢ WP c (k (landed m c t e)) Q) :
    St m c K R σ r o ⊢ WP c (.op (.load (dstB t e) (rect t e).toLoadRect hl) k) Q := by
  refine (st_dst m c K R (t, e)).trans ?_
  rw [hr]
  unfold dstSt
  iintro ⟨⟨H, Hv⟩, -, -, HO, Hs⟩
  iapply (load_slot c (dstB t e) (rect t e) (fun _ => rfl) (landed m c t e)) $$ H
  iintro H
  iapply hk
  ispecialize Hs $$ %true
  rw [show Function.update r (t, e) true = r from by rw [← hr]; exact Function.update_eq_self _ _]
  iapply Hs $$ [H Hv]
  · isplitl [H] <;> iassumption
  iexact HO

/-- A store of the device's own term into a send slot; -/
theorem st_sts_part (t : Fin 6) (e : Fin 7) (hσ : σ (t, e) = .junk) {w : Vec F (TV t) .bf16} (hw : w = part m c t e)
    {hx : ((srcB t e).access (rect t e) : View sig .tc _ _ _).Stores Finset.univ} {hm : (Finset.univ : Finset (rect t e).shape.Idx) = Finset.univ ∨ ∀ a, (rect t e).stride a = 1}
    {k : PUnit → Prog (TpuEff nD τ sig (Elt F) Λ₀ .tc) α} (hk : St m c K R (Function.update σ (t, e) .part) r o ⊢ WP c (k ⟨⟩) Q) :
    St m c K R σ r o ⊢ WP c (.op (.store (srcB t e) (rect t e) w Finset.univ hx hm) k) Q := by
  subst hw
  refine (st_src m c K R (t, e)).trans ?_
  rw [hσ]
  unfold srcSt
  iintro ⟨⟨⟨%X, H⟩, Hp⟩, Hs⟩
  iapply (store_slot c (srcB t e) (rect t e) (fun _ => rfl) X (part m c t e)) $$ H
  iintro H
  iapply hk
  ispecialize Hs $$ %Sl.part
  iapply Hs
  · ipureintro; rfl
  isplitl [H] <;> iassumption

/-- of what is to be sent, over nothing or over the device's own term. -/
theorem st_sts_full (t : Fin 6) (e : Fin 7) (hσ : σ (t, e) = .junk ∨ σ (t, e) = .part) {w : Vec F (TV t) .bf16} (hw : w = sent m c t e)
    {hx : ((srcB t e).access (rect t e) : View sig .tc _ _ _).Stores Finset.univ} {hm : (Finset.univ : Finset (rect t e).shape.Idx) = Finset.univ ∨ ∀ a, (rect t e).stride a = 1}
    {k : PUnit → Prog (TpuEff nD τ sig (Elt F) Λ₀ .tc) α} (hk : St m c K R (Function.update σ (t, e) .full) r o ⊢ WP c (k ⟨⟩) Q) :
    St m c K R σ r o ⊢ WP c (.op (.store (srcB t e) (rect t e) w Finset.univ hx hm) k) Q := by
  subst hw
  refine (st_src m c K R (t, e)).trans ?_
  have hp : Sl.full.pending = (σ (t, e)).pending := by rcases hσ with h | h <;> rw [h] <;> rfl
  have hs : srcSt m c (t, e) (σ (t, e)) ⊢ iprop((∃ X, has (F := F) c (srcM t e) X) ∗ pend c t e) := by
    rcases hσ with h | h <;> rw [h] <;> unfold srcSt
    · exact BI.Entails.refl _
    · iintro ⟨H, Hp⟩; isplitl [H]; · iexists _; iexact H
      iexact Hp
  iintro ⟨H, Hs⟩
  ihave H := hs $$ H
  icases H with ⟨⟨%X, H⟩, Hp⟩
  iapply (store_slot c (srcB t e) (rect t e) (fun _ => rfl) X (sent m c t e)) $$ H
  iintro H
  iapply hk
  ispecialize Hs $$ %Sl.full
  iapply Hs
  · ipureintro; exact hp
  unfold srcSt
  isplitl [H] <;> iassumption

/-- A load of columns of the result not written; of columns holding the device's own term; -/
theorem st_ldo_junk (t : Fin 6) (ho : o t = .junk)
    {hl : (oM : Memref sig .tc .vmem S256x2048 .f32).view.LoadsAt (crect t).toLoadRect}
    {k : Vec F (TV t) .f32 → Prog (TpuEff nD τ sig (Elt F) Λ₀ .tc) α} (hk : ∀ v, St m c K R σ r o ⊢ WP c (k v) Q) :
    St m c K R σ r o ⊢ WP c (.op (.load oM (crect t).toLoadRect hl) k) Q := by
  refine (st_out m c K R t).trans ?_
  rw [ho]
  unfold outSt
  iintro ⟨⟨%X, H⟩, Hs⟩
  iapply (load_slot c oM (crect t) (fun _ => rfl) X) $$ H
  iintro H
  iapply (hk X)
  ispecialize Hs $$ %Ol.junk
  rw [show Function.update o t Ol.junk = o from by rw [← ho]; exact Function.update_eq_self _ _]
  iapply Hs
  iexists X; iexact H
theorem st_ldo_part (t : Fin 6) (ho : o t = .part)
    {hl : (oM : Memref sig .tc .vmem S256x2048 .f32).view.LoadsAt (crect t).toLoadRect}
    {k : Vec F (TV t) .f32 → Prog (TpuEff nD τ sig (Elt F) Λ₀ .tc) α} (hk : St m c K R σ r o ⊢ WP c (k (own0 m c t)) Q) :
    St m c K R σ r o ⊢ WP c (.op (.load oM (crect t).toLoadRect hl) k) Q := by
  refine (st_out m c K R t).trans ?_
  rw [ho]
  unfold outSt
  iintro ⟨H, Hs⟩
  iapply (load_slot c oM (crect t) (fun _ => rfl) (own0 m c t)) $$ H
  iintro H
  iapply hk
  ispecialize Hs $$ %Ol.part
  rw [show Function.update o t Ol.part = o from by rw [← ho]; exact Function.update_eq_self _ _]
  iapply Hs
  iexact H

/-- a store of the device's own term; of the finished columns. -/
theorem st_sto_part (t : Fin 6) (ho : o t = .junk) {w : Vec F (TV t) .f32} (hw : w = own0 m c t)
    {hx : ((oM : Memref sig .tc .vmem S256x2048 .f32).access (crect t) : View sig .tc _ _ _).Stores Finset.univ} {hm : (Finset.univ : Finset (crect t).shape.Idx) = Finset.univ ∨ ∀ a, (crect t).stride a = 1}
    {k : PUnit → Prog (TpuEff nD τ sig (Elt F) Λ₀ .tc) α} (hk : St m c K R σ r (Function.update o t .part) ⊢ WP c (k ⟨⟩) Q) :
    St m c K R σ r o ⊢ WP c (.op (.store oM (crect t) w Finset.univ hx hm) k) Q := by
  subst hw
  refine (st_out m c K R t).trans ?_
  rw [ho]
  unfold outSt
  iintro ⟨⟨%X, H⟩, Hs⟩
  iapply (store_slot c oM (crect t) (fun _ => rfl) X (own0 m c t)) $$ H
  iintro H
  iapply hk
  ispecialize Hs $$ %Ol.part
  iapply Hs
  iexact H
theorem st_sto_done (t : Fin 6) (ho : o t = .part) {w : Vec F (TV t) .f32} (hw : w = outv m c t)
    {hx : ((oM : Memref sig .tc .vmem S256x2048 .f32).access (crect t) : View sig .tc _ _ _).Stores Finset.univ} {hm : (Finset.univ : Finset (crect t).shape.Idx) = Finset.univ ∨ ∀ a, (crect t).stride a = 1}
    {k : PUnit → Prog (TpuEff nD τ sig (Elt F) Λ₀ .tc) α} (hk : St m c K R σ r (Function.update o t .done) ⊢ WP c (k ⟨⟩) Q) :
    St m c K R σ r o ⊢ WP c (.op (.store oM (crect t) w Finset.univ hx hm) k) Q := by
  subst hw
  refine (st_out m c K R t).trans ?_
  rw [ho]
  unfold outSt
  iintro ⟨H, Hs⟩
  iapply (store_slot c oM (crect t) (fun _ => rfl) (own0 m c t) (outv m c t)) $$ H
  iintro H
  iapply hk
  ispecialize Hs $$ %Ol.done
  iapply Hs
  iexact H

/-- A wait for what lands in exchange `(t, e)`: every exchange still to be issued is at a higher level. -/
theorem st_recv (t : Fin 6) (e : Fin 7) (hr : r (t, e) = false) (hlev : ∀ k, (σ k).pending = true → klv e < klv k.2)
    {q : DmaSem sig} (hq : q = recvQ t e) {sp sp' : Space} {s s' : Shape} {el el' : EltTy} {src : Memref sig .tc sp s el} {dst : Memref sig .tc sp' s' el'}
    (hN : dst.view.dmaCredit = N t e) {hsrc : src.view.WordExact} {hdst : dst.view.WordExact}
    {k : PUnit → Prog (TpuEff nD τ sig (Elt F) Λ₀ .tc) α} (hk : St m c K R σ (Function.update r (t, e) true) o ⊢ WP c (k ⟨⟩) Q) :
    St m c K R σ r o ⊢ WP c (.op (.waitDma2 q src dst hsrc hdst) k) Q := by
  subst hq
  refine (st_dst m c K R (t, e)).trans ?_
  rw [hr]
  conv_lhs => unfold dstSt
  iintro ⟨⟨HC, HP⟩, #Hi, #Hl, ⟨%W, HO⟩, Hs⟩
  iapply (Rounds.wp_wait_rest_token 𝒱₀ ER (rd m) (c : Thread nD τ) none (κ := K (c, some (true, t, e))) (wpE_waitDma2_eq 𝒱₀ (c : Thread nD τ) none Set.univ)
    (Set.mem_univ _) () (O := owed c fun k => (σ k).pending) (W := W) (R := 0) (m := 0) (T := ∅) (k' := dst.view.dmaCredit) (by rw [zero_add, hN]; exact (expect_recv m t e c).symm)) $$ [HC HP HO]
  · isplitr; · iapply (recs_inv m K (c, some (true, t, e))); iexact Hi
    isplitl [HC]; · rw [hN]; iexact HC
    isplitl [HO]; · iexact HO
    isplitr
    · iapply (mayWait_owed c (.dma (recvQ t e)) (fun k => (σ k).pending) (fun j hj => by
        rw [show slv (.dma (recvQ t e)) = klv e from lv_recv t e c ()]; exact hlev j hj)); iexact Hl
    iexact HP
  iintro ⟨HO, HP, -, HY⟩
  ihave HY := (Entails.of_eq (rest_recv m t e c)) $$ HY
  imod (Rounds.cell_close ER (rd m) (g := recvCell t e c) (Set.mem_univ (K (c, some (true, t, e)))) (fun h => h) (R := 0 + 1) (duties_later m (recvCell t e c))) $$ [HP] with HV
  · isplitr; · iapply (recs_inv m K (c, some (true, t, e))); iexact Hi
    iexact HP
  iapply hk
  ispecialize Hs $$ %true
  iapply Hs $$ [HY HV]
  · dsimp only
    isplitl [HY]; · unfold recvPay; iexact HY
    iexact HV
  iexists _
  iexact HO

/-- The transfer of exchange `(t, e)`. -/
theorem st_send (t : Fin 6) (e : Fin 7) (hσ : σ (t, e) = .full) {n : Dev nD} (hn : n = peer t e c)
    {qs qr : DmaSem sig} (hqs : qs = sendQ t e) (hqr : qr = recvQ t e)
    {hsc : (dstD t e : Memref sig (Dev.tc n : Thread nD τ).2.kind .vmem (TV t) .bf16).view.ref.isScScratch = false}
    {hsrc : (srcD t e).view.WordExact} {hdst : (dstD t e).view.WordExact}
    {hsem : DmaTarget.Typed .vmem (.dma qr) (.remote (Dev.tc n : Thread nD τ) (dstD t e : Memref sig .tc .vmem (TV t) .bf16) (.dma qs) hsc)}
    {k : PUnit → Prog (TpuEff nD τ sig (Elt F) Λ₀ .tc) α} (hk : St m c K R (Function.update σ (t, e) .flying) r o ⊢ WP c (k ⟨⟩) Q) :
    St m c K R σ r o ⊢ WP c (.op (.enqueueDma (srcD t e) (.remote (Dev.tc n : Thread nD τ) (dstD t e) (.dma qs) hsc) (.dma qr) hsrc hdst hsem) k) Q := by
  subst hn hqs hqr
  unfold St at hk ⊢
  iintro ⟨HR, #Hi, #Hl, ⟨%W, HO⟩, Hx, Hw, Hs, Hrest⟩
  ihave Hs := (bigSep_univ_turn (fun k s => srcSt m c k s) σ (t, e)) $$ Hs
  icases Hs with ⟨H, Hs⟩
  ihave H := (show srcSt m c (t, e) (σ (t, e)) ⊢ iprop(has c (srcD t e) (sent m c t e) ∗ (∃ X, has (F := F) (peer t e c) (dstD t e) X)
      ∗ dutyTok ER (sendCell t e c) 0 0 ∗ dutyTok ER (recvCell t e (peer t e c)) 0 0 ∗ atPos ER (sendCell t e c) 0 ∅ 0) from by
    rw [hσ]; unfold srcSt pend; dsimp only
    rw [has_srcD]
    iintro ⟨H, ⟨%X, HX⟩, H1⟩
    isplitl [H]; · iexact H
    isplitl [HX]; · iexists X; rw [← has_dstD]; iexact HX
    iexact H1) $$ H
  unfold has owns at hk ⊢
  icases H with ⟨⟨%fs, %hfs, Hsrc⟩, ⟨%X, %fd, -, Hdst⟩, HT1, HT2, HP⟩
  iapply (Rounds.wp_send_pointsTo 𝒱₀ ER (rd m) (c : Thread nD τ) none (κ₁ := K (c, some (false, t, e))) (κ₂ := K (peer t e c, some (true, t, e)))
    (r₁ := 0) (r₂ := 0) (d₁ := 0) (d₂ := 0) (fs := fs) (fd := fd)
    (by rw [duties_send]; exact Finset.mem_singleton_self _) (by rw [duties_recv]; exact Finset.mem_singleton_self _)
    () () (N t e) rfl (amount_send m t e c 0) (amount_recv m t e (peer t e c) 0) (owed c fun k => (Function.update σ (t, e) Sl.flying k).pending)
    (owed_send c (p := fun k => (σ k).pending) (q := fun k => (Function.update σ (t, e) Sl.flying k).pending) (t, e) (by rw [hσ]; rfl) (by rw [Function.update_self]; rfl) (fun j hj => by rw [Function.update_of_ne hj])) (W := W)
    (by
      rw [payload_send]; unfold sendPay; dsimp only; rw [has_srcD]; unfold has owns
      iintro H; iexists fs; isplitr; · ipureintro; exact hfs
      iexact H)
    (by
      rw [payload_recv]; unfold recvPay; dsimp only; rw [has_dstD]; unfold has owns
      iintro H; iexists ((dstD t e).view.write (Elt F) fd ((srcD t e).view.read (Elt F) fs) Finset.univ); isplitr
      · ipureintro; rw [View.read_write_univ, hfs]; unfold landed; rw [peer_peer]
      iexact H)) $$ [Hsrc Hdst HO HT1 HT2]
  · isplitr; · iapply (recs_inv m K (c, some (false, t, e))); iexact Hi
    isplitr; · iapply (recs_inv m K (peer t e c, some (true, t, e))); iexact Hi
    isplitl [Hsrc]; · iexact Hsrc
    isplitl [Hdst]; · iexact Hdst
    isplitl [HO]; · iexact HO
    isplitl [HT1]; · iexact HT1
    isplitr; · iapply (recs_reached m K (c, some (false, t, e))); iexact Hi
    isplitl [HT2]; · iexact HT2
    iapply (recs_reached m K (peer t e c, some (true, t, e))); iexact Hi
  iintro ⟨HC, HO⟩
  iapply hk
  isplitl [HR]; · iexact HR
  isplitr; · iexact Hi
  isplitr; · iexact Hl
  isplitl [HO]; · iexists W; iexact HO
  isplitl [Hx]; · iexact Hx
  isplitl [Hw]; · iexact Hw
  isplitr [Hrest]
  · ispecialize Hs $$ %Sl.flying
    iapply Hs
    unfold srcSt; dsimp only
    isplitl [HC] <;> iassumption
  iexact Hrest

/-- The wait for one's own transfer of exchange `(t, e)` to have left, when nothing is still to be issued. -/
theorem st_sentw (t : Fin 6) (e : Fin 7) (hσ : σ (t, e) = .flying) (hlev : ∀ k, (σ k).pending = false)
    {q : DmaSem sig} (hq : q = sendQ t e) {sp sp' : Space} {s s' : Shape} {el el' : EltTy} {src : Memref sig .tc sp s el} {dst : Memref sig .tc sp' s' el'}
    (hN : dst.view.dmaCredit = N t e) {hsrc : src.view.WordExact} {hdst : dst.view.WordExact}
    {k : PUnit → Prog (TpuEff nD τ sig (Elt F) Λ₀ .tc) α} (hk : St m c K R (Function.update σ (t, e) .done) r o ⊢ WP c (k ⟨⟩) Q) :
    St m c K R σ r o ⊢ WP c (.op (.waitDma2 q src dst hsrc hdst) k) Q := by
  subst hq
  have ho : (owed c fun k => (σ k).pending) = 0 := owed_none c hlev
  have ho' : (owed c fun k => (Function.update σ (t, e) Sl.done k).pending) = 0 := owed_none c fun j => by
    by_cases h : j = (t, e)
    · subst h; rw [Function.update_self]; rfl
    · rw [Function.update_of_ne h]; exact hlev j
  unfold St at hk ⊢
  rw [ho]
  rw [ho'] at hk
  iintro ⟨HR, #Hi, #Hl, ⟨%W, HO⟩, Hx, Hw, Hs, Hrest⟩
  ihave Hs := (bigSep_univ_turn (fun k s => srcSt m c k s) σ (t, e)) $$ Hs
  icases Hs with ⟨H, Hs⟩
  ihave H := (show srcSt m c (t, e) (σ (t, e)) ⊢ iprop(cred (tallyAt (sendCell t e c) () (N t e)) ∗ atPos ER (sendCell t e c) 0 ∅ 0) from by
    rw [hσ]; exact BI.Entails.refl _) $$ H
  icases H with ⟨HC, HP⟩
  iapply (Rounds.wp_wait_rest_token 𝒱₀ ER (rd m) (c : Thread nD τ) none (κ := K (c, some (false, t, e))) (wpE_waitDma2_eq 𝒱₀ (c : Thread nD τ) none Set.univ)
    (Set.mem_univ _) () (O := 0) (W := W) (R := 0) (m := 0) (T := ∅) (k' := dst.view.dmaCredit) (by rw [zero_add, hN]; exact (expect_send m t e c).symm)) $$ [HC HP HO]
  · isplitr; · iapply (recs_inv m K (c, some (false, t, e))); iexact Hi
    isplitl [HC]; · rw [hN]; iexact HC
    isplitl [HO]; · iexact HO
    isplitr; · rw [MayWait_zero]; iempintro
    iexact HP
  iintro ⟨HO, HP, -, HY⟩
  ihave HY := (Entails.of_eq (rest_send m t e c)) $$ HY
  imod (Rounds.cell_close ER (rd m) (g := sendCell t e c) (Set.mem_univ (K (c, some (false, t, e)))) (fun h => h) (R := 0 + 1) (duties_later m (sendCell t e c))) $$ [HP] with HV
  · isplitr; · iapply (recs_inv m K (c, some (false, t, e))); iexact Hi
    iexact HP
  iapply hk
  isplitl [HR]; · iexact HR
  isplitr; · iexact Hi
  isplitr; · iexact Hl
  isplitl [HO]; · iexists _; iexact HO
  isplitl [Hx]; · iexact Hx
  isplitl [Hw]; · iexact Hw
  isplitr [Hrest]
  · ispecialize Hs $$ %Sl.done
    iapply Hs
    unfold srcSt; dsimp only
    isplitl [HY]; · unfold sendPay; iexact HY
    iexact HV
  iexact Hrest

/-- The state with its three tables replaced by equal ones. -/
theorem st_eq {σ' : Key → Sl} {r' : Key → Bool} {o' : Fin 6 → Ol} (hσ : ∀ k, σ k = σ' k) (hr : ∀ k, r k = r' k) (ho : ∀ t, o t = o' t)
    {P : PR F} (h : St m c K R σ' r' o' ⊢ P) : St m c K R σ r o ⊢ P := by
  rw [funext hσ, funext hr, funext ho]; exact h

end State

end Cert.Cube
-- ==== Proof.Prologue.lean ====
/-
# The entry barrier and the two roundings

Before its first exchange a device signals its three neighbours, each signal handing over the landing slots that neighbour
writes, waits for its own three units, which bring it the neighbours' slots, and rounds its two factors.
-/
module

public import proofs.«01_k».proof.Proof.Steps
public import Idealize.ShloMosaic.Lib.VecWindow

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (K : Dev nD × CIx → ℕ)

/-- The landing slots of device `c`; those of its neighbours it writes. -/
def slots : PR F := bigSep Finset.univ fun k : Key => iprop(∃ X, has (F := F) c (dstM k.1 k.2) X)
def peers : PR F := bigSep Finset.univ fun k : Key => iprop(∃ X, has (F := F) (peer k.1 k.2 c) (dstM k.1 k.2) X)

omit [FloatOps F] in
/-- A family over the keys is the families of the keys of each dimension. -/
theorem by_dim (P : Key → Fin 3 → sProp 𝕄) :
    (bigSep Finset.univ fun d : Fin 3 => bigSep Finset.univ fun k : Key => if dim k.1 k.2 = d then P k d else iprop(emp))
      = bigSep Finset.univ fun k : Key => P k (dim k.1 k.2) := by
  rw [← bigSep_univ_prod fun dk : Fin 3 × Key => if dim dk.2.1 dk.2.2 = dk.1 then P dk.2 dk.1 else iprop(emp),
    bigSep_univ_equiv (Equiv.prodComm Key (Fin 3)), bigSep_univ_prod]
  refine bigSep_congr fun k _ => ?_
  show (bigSep Finset.univ fun d : Fin 3 => if dim k.1 k.2 = d then P k d else iprop(emp)) = _
  rw [bigSep_univ_at _ (dim k.1 k.2), if_pos rfl]
  rw [show (bigSep (Finset.univ.erase (dim k.1 k.2)) fun d => if dim k.1 k.2 = d then P k d else iprop(emp))
      = bigSep (Finset.univ.erase (dim k.1 k.2)) fun _ => (iprop(emp) : sProp 𝕄) from
    bigSep_congr fun d hd => if_neg fun h => (Finset.mem_erase.mp hd).1 h.symm]
  rw [show (bigSep (Finset.univ.erase (dim k.1 k.2)) fun _ : Fin 3 => (iprop(emp) : sProp 𝕄)) = iprop(emp) from bigSep_emp_const _]
  exact equiv_iff.mp BI.sep_emp

theorem slots_out : slots (F := F) c = bigSep Finset.univ fun d : Fin 3 => barPay (flip d c) d := by
  unfold slots barPay
  rw [← by_dim fun k d => iprop(∃ X, has (F := F) c (dstM k.1 k.2) X)]
  refine bigSep_congr fun d _ => ?_
  rw [flip_flip]
theorem peers_in : (bigSep Finset.univ fun d : Fin 3 => barPay (F := F) c d) = peers c := by
  unfold peers barPay
  exact by_dim fun k d => iprop(∃ X, has (F := F) (flip d c) (dstM k.1 k.2) X)

/-- The state during the signals: `O` still owed, the signals across the dimensions `p` still to be sent; `R` the rest. -/
def Pro (R : PR F) (O : CellTallies nD τ sig Unit) (p : Fin 3 → Bool) : PR F :=
  iprop(R ∗ recs m K ∗ levAts L lv ∗ (∃ W : Waits sig Unit, owes (c : Thread nD τ) O W)
    ∗ cred (tallyAt (barCell c) () 3) ∗ atPos ER (barCell c) 0 ∅ 0
    ∗ bigSep Finset.univ fun d : Fin 3 => if p d then iprop(dutyTok ER (barCell (flip d c)) 0 d ∗ barPay (flip d c) d) else iprop(emp))

variable (R : PR F) {α : Type} {Q : α → PR F}

theorem pro_signal (d : Fin 3) {O O' : CellTallies nD τ sig Unit} {p : Fin 3 → Bool} (hO : O = O' + tallyAt (barCell (flip d c)) () 1) (hp : p d = true)
    {n : Dev nD} (hn : n = flip d c) {k' : ℕ} (hk' : 1 = k')
    {k : PUnit → Prog (TpuEff nD τ sig (Elt F) Λ₀ .tc) α} (hk : Pro m c K R O' (Function.update p d false) ⊢ WP c (k ⟨⟩) Q) :
    Pro m c K R O p ⊢ WP c (.op (.semSignal (n, .tc) barS k') k) Q := by
  subst hn hk'
  unfold Pro at hk ⊢
  iintro ⟨HR, #Hi, #Hl, ⟨%W, HO⟩, HC, HP, HT⟩
  ihave HT := (bigSep_univ_turn (fun (d : Fin 3) (b : Bool) => if b then iprop(dutyTok ER (barCell (flip d c)) 0 d ∗ barPay (F := F) (flip d c) d) else iprop(emp)) p d) $$ HT
  icases HT with ⟨H, HT⟩
  ihave H := (show (if p d then iprop(dutyTok ER (barCell (flip d c)) 0 d ∗ barPay (F := F) (flip d c) d) else iprop(emp)) ⊢ iprop(dutyTok ER (barCell (flip d c)) 0 d ∗ barPay (F := F) (flip d c) d) from by
    rw [if_pos hp]) $$ H
  icases H with ⟨HD, HB⟩
  iapply (Rounds.wp_signal 𝒱₀ ER (rd m) (c : Thread nD τ) none (dst := (flip d c : Thread nD τ)) (κ := K (flip d c, none))
      (d := d) (by rw [duties_bar]; exact Finset.mem_univ _) (amount_bar m (flip d c) d) () O' hO) $$ [HO HD HB]
  · isplitr; · iapply (recs_inv m K (flip d c, none)); iexact Hi
    isplitl [HO]; · iexact HO
    isplitl [HD]; · iexact HD
    isplitl [HB]; · rw [payload_bar]; iexact HB
    iapply (recs_reached m K (flip d c, none)); iexact Hi
  iintro HO
  iapply hk
  isplitl [HR]; · iexact HR
  isplitr; · iexact Hi
  isplitr; · iexact Hl
  isplitl [HO]; · iexists W; iexact HO
  isplitl [HC]; · iexact HC
  isplitl [HP]; · iexact HP
  ispecialize HT $$ %false
  iapply HT
  iempintro

theorem pro_wait {p : Fin 3 → Bool} {k' : ℕ} (hk' : k' = 3)
    {k : PUnit → Prog (TpuEff nD τ sig (Elt F) Λ₀ .tc) α}
    (hk : iprop(R ∗ recs m K ∗ levAts L lv ∗ (∃ W : Waits sig Unit, owes (c : Thread nD τ) (owed c fun _ => true) W) ∗ semVal (barCell c) 0 ∗ peers (F := F) c) ⊢ WP c (k ⟨⟩) Q) :
    Pro m c K R (owed c fun _ => true) p ⊢ WP c (.op (.semWait barS k') k) Q := by
  subst hk'
  unfold Pro
  iintro ⟨HR, #Hi, #Hl, ⟨%W, HO⟩, HC, HP, HT⟩
  iapply (Rounds.wp_wait_rest_token 𝒱₀ ER (rd m) (c : Thread nD τ) none (κ := K (c, none))
      (wpE_semWait_eq 𝒱₀ (c : Thread nD τ) none Set.univ) (Set.mem_univ _) () (O := owed c fun _ => true) (W := W) (R := 0) (m := 0) (T := ∅)
      (by rw [expect_bar])) $$ [HC HO HP]
  · isplitr; · iapply (recs_inv m K (c, none)); iexact Hi
    isplitl [HC]; · iexact HC
    isplitl [HO]; · iexact HO
    isplitr; · iapply (mayWait_owed c (.reg barS) (fun _ => true) (fun j _ => klv_pos j.2)); iexact Hl
    iexact HP
  iintro ⟨HO, HP, -, HY⟩
  ihave HY := (Entails.of_eq ((rest_bar m c).trans (peers_in c))) $$ HY
  imod (Rounds.cell_close ER (rd m) (g := barCell c) (Set.mem_univ (K (c, none))) (fun h => h) (R := 0 + 1) (duties_later m (barCell c))) $$ [HP] with HV
  · isplitr; · iapply (recs_inv m K (c, none)); iexact Hi
    iexact HP
  iapply hk
  isplitl [HR]; · iexact HR
  isplitr; · iexact Hi
  isplitr; · iexact Hl
  isplitl [HO]; · iexists _; iexact HO
  isplitl [HV] <;> iassumption

/-! ## The two roundings -/

section Round
variable {b : Ref sig .tc} {off : Fin b.ty.shape.rank → ℕ} {inb : ∀ a, off a + b.ty.shape.size a ≤ b.ty.shape.size a}

/-- A load of a whole buffer reads its contents; a store of one leaves what was stored. -/
theorem load_all {sp : CoreSpace} {M : Memref sig .tc sp b.ty.shape b.ty.elt} (h : off = fun _ => 0) (X : b.ty.shape.Idx → Elt F b.ty.elt) (P : PR F)
    {hl : M.view.LoadsAt (Rect.unit off b.ty.shape.size inb).toLoadRect}
    {k : (b.ty.shape.Idx → Elt F b.ty.elt) → Prog (TpuEff nD τ sig (Elt F) Λ₀ .tc) α}
    (hk : iprop(has (F := F) c M X ∗ P) ⊢ WP c (k X) Q) :
    iprop(has (F := F) c M X ∗ P) ⊢ WP c (.op (.load M (Rect.unit off b.ty.shape.size inb).toLoadRect hl) k) Q := by
  subst h
  iintro ⟨H, HP⟩
  iapply (load_part c M (Rect.unit (fun _ => 0) b.ty.shape.size inb) X fullShare) $$ H
  iintro H
  rw [show (fun j => X ((Rect.unit (fun _ => 0) b.ty.shape.size inb).emb j)) = X from funext fun j => congrArg X (Rect.emb_unit_full inb j)]
  iapply hk
  isplitl [H] <;> iassumption

theorem store_all {sp : CoreSpace} {M : Memref sig .tc sp b.ty.shape b.ty.elt}
    (h : ∀ X : b.ty.shape.Idx → Elt F b.ty.elt, has (F := F) c (M.slice (Rect.unit off b.ty.shape.size inb) (fun _ => rfl)) X = has (F := F) c M X) (X w : b.ty.shape.Idx → Elt F b.ty.elt) (P : PR F)
    {hx : (M.access (Rect.unit off b.ty.shape.size inb) : View sig .tc _ _ _).Stores Finset.univ}
    {hm : (Finset.univ : Finset (Rect.unit off b.ty.shape.size inb).shape.Idx) = Finset.univ ∨ ∀ a, (Rect.unit off b.ty.shape.size inb).stride a = 1}
    {k : PUnit → Prog (TpuEff nD τ sig (Elt F) Λ₀ .tc) α}
    (hk : iprop(has (F := F) c M w ∗ P) ⊢ WP c (k ⟨⟩) Q) :
    iprop(has (F := F) c M X ∗ P) ⊢ WP c (.op (.store M (Rect.unit off b.ty.shape.size inb) w Finset.univ hx hm) k) Q := by
  rw [← h X]
  rw [← h w] at hk
  iintro ⟨H, HP⟩
  iapply (store_slot c M (Rect.unit off b.ty.shape.size inb) (fun _ => rfl) X w) $$ H
  iintro H
  iapply hk
  isplitl [H] <;> iassumption

end Round

theorem hz : (![0, 0] : Fin 2 → ℕ) = fun _ => 0 := funext fun a => by fin_cases a <;> rfl

/-- The two staged factors, and the two buffers of their roundings holding `X` and `Y`. -/
def Rnd (P : PR F) (X : Vec F S2048x256 .bf16) (Y : Vec F S256x2048 .bf16) : PR F :=
  iprop(has c xM (xstg m c) ∗ has c wM (wstg m c) ∗ has c xbM X ∗ has c wbM Y ∗ P)

variable {P : PR F} {X : Vec F S2048x256 .bf16} {Y : Vec F S256x2048 .bf16}

theorem rnd_ldx {hl : (xM : Memref sig .tc .vmem S2048x256 .f32).view.LoadsAt (Rect.unit (s := S2048x256) ![0, 0] S2048x256.size inb_S2048x256_S2048x256_0_0).toLoadRect}
    {k : Vec F S2048x256 .f32 → Prog (TpuEff nD τ sig (Elt F) Λ₀ .tc) α} (hk : Rnd m c P X Y ⊢ WP c (k (xstg m c)) Q) :
    Rnd m c P X Y ⊢ WP c (.op (.load xM (Rect.unit (s := S2048x256) ![0, 0] S2048x256.size inb_S2048x256_S2048x256_0_0).toLoadRect hl) k) Q := by
  unfold Rnd at hk ⊢
  exact load_all (b := cc0_stg0_0) c hz _ _ hk
theorem rnd_ldw {hl : (wM : Memref sig .tc .vmem S256x2048 .f32).view.LoadsAt (Rect.unit (s := S256x2048) ![0, 0] S256x2048.size inb_S256x2048_S256x2048_0_0).toLoadRect}
    {k : Vec F S256x2048 .f32 → Prog (TpuEff nD τ sig (Elt F) Λ₀ .tc) α} (hk : Rnd m c P X Y ⊢ WP c (k (wstg m c)) Q) :
    Rnd m c P X Y ⊢ WP c (.op (.load wM (Rect.unit (s := S256x2048) ![0, 0] S256x2048.size inb_S256x2048_S256x2048_0_0).toLoadRect hl) k) Q := by
  unfold Rnd at hk ⊢
  iintro ⟨Hx, Hw, HP⟩
  iapply (load_all (b := cc0_stg1_0) c hz (wstg m c) iprop(has c xM (xstg m c) ∗ has c xbM X ∗ has c wbM Y ∗ P) (show _ ⊢ _ from by
    iintro ⟨Hw, Hx, HP⟩
    iapply hk
    isplitl [Hx]; · iexact Hx
    isplitl [Hw] <;> iassumption))
  isplitl [Hw]; · iexact Hw
  isplitl [Hx] <;> iassumption
theorem rnd_ldxb {hl : (xbM : Memref sig .tc .vmem S2048x256 .bf16).view.LoadsAt (Rect.unit (s := S2048x256) ![0, 0] S2048x256.size inb_S2048x256_S2048x256_0_0).toLoadRect}
    {k : Vec F S2048x256 .bf16 → Prog (TpuEff nD τ sig (Elt F) Λ₀ .tc) α} (hk : Rnd m c P X Y ⊢ WP c (k X) Q) :
    Rnd m c P X Y ⊢ WP c (.op (.load xbM (Rect.unit (s := S2048x256) ![0, 0] S2048x256.size inb_S2048x256_S2048x256_0_0).toLoadRect hl) k) Q := by
  unfold Rnd at hk ⊢
  iintro ⟨Hx, Hw, Hb, HP⟩
  iapply (load_all (b := cc0_scratch0) c hz X iprop(has c xM (xstg m c) ∗ has c wM (wstg m c) ∗ has c wbM Y ∗ P) (show _ ⊢ _ from by
    iintro ⟨Hb, Hx, Hw, HP⟩
    iapply hk
    isplitl [Hx]; · iexact Hx
    isplitl [Hw]; · iexact Hw
    isplitl [Hb] <;> iassumption))
  isplitl [Hb]; · iexact Hb
  isplitl [Hx]; · iexact Hx
  isplitl [Hw] <;> iassumption
theorem rnd_ldwb {hl : (wbM : Memref sig .tc .vmem S256x2048 .bf16).view.LoadsAt (Rect.unit (s := S256x2048) ![0, 0] S256x2048.size inb_S256x2048_S256x2048_0_0).toLoadRect}
    {k : Vec F S256x2048 .bf16 → Prog (TpuEff nD τ sig (Elt F) Λ₀ .tc) α} (hk : Rnd m c P X Y ⊢ WP c (k Y) Q) :
    Rnd m c P X Y ⊢ WP c (.op (.load wbM (Rect.unit (s := S256x2048) ![0, 0] S256x2048.size inb_S256x2048_S256x2048_0_0).toLoadRect hl) k) Q := by
  unfold Rnd at hk ⊢
  iintro ⟨Hx, Hw, Hb, Hd, HP⟩
  iapply (load_all (b := cc0_scratch1) c hz Y iprop(has c xM (xstg m c) ∗ has c wM (wstg m c) ∗ has c xbM X ∗ P) (show _ ⊢ _ from by
    iintro ⟨Hd, Hx, Hw, Hb, HP⟩
    iapply hk
    isplitl [Hx]; · iexact Hx
    isplitl [Hw]; · iexact Hw
    isplitl [Hb]; · iexact Hb
    isplitl [Hd] <;> iassumption))
  isplitl [Hd]; · iexact Hd
  isplitl [Hx]; · iexact Hx
  isplitl [Hw]; · iexact Hw
  isplitl [Hb] <;> iassumption
theorem rnd_stx {X' : Vec F S2048x256 .bf16}
    {hx : ((xbM : Memref sig .tc .vmem S2048x256 .bf16).access (Rect.unit (s := S2048x256) ![0, 0] S2048x256.size inb_S2048x256_S2048x256_0_0) : View sig .tc _ _ _).Stores Finset.univ}
    {hm : (Finset.univ : Finset (Rect.unit (s := S2048x256) ![0, 0] S2048x256.size inb_S2048x256_S2048x256_0_0).shape.Idx) = Finset.univ ∨ ∀ a, (Rect.unit (s := S2048x256) ![0, 0] S2048x256.size inb_S2048x256_S2048x256_0_0).stride a = 1}
    {k : PUnit → Prog (TpuEff nD τ sig (Elt F) Λ₀ .tc) α} (hk : Rnd m c P X' Y ⊢ WP c (k ⟨⟩) Q) :
    Rnd m c P X Y ⊢ WP c (.op (.store xbM (Rect.unit (s := S2048x256) ![0, 0] S2048x256.size inb_S2048x256_S2048x256_0_0) X' Finset.univ hx hm) k) Q := by
  unfold Rnd at hk ⊢
  iintro ⟨Hx, Hw, Hb, HP⟩
  iapply (store_all (b := cc0_scratch0) c (has_full c cc0_scratch0 hz inb_S2048x256_S2048x256_0_0) X X' iprop(has c xM (xstg m c) ∗ has c wM (wstg m c) ∗ has c wbM Y ∗ P) (show _ ⊢ _ from by
    iintro ⟨Hb, Hx, Hw, HP⟩
    iapply hk
    isplitl [Hx]; · iexact Hx
    isplitl [Hw]; · iexact Hw
    isplitl [Hb] <;> iassumption))
  isplitl [Hb]; · iexact Hb
  isplitl [Hx]; · iexact Hx
  isplitl [Hw] <;> iassumption
theorem rnd_stw {Y' : Vec F S256x2048 .bf16}
    {hx : ((wbM : Memref sig .tc .vmem S256x2048 .bf16).access (Rect.unit (s := S256x2048) ![0, 0] S256x2048.size inb_S256x2048_S256x2048_0_0) : View sig .tc _ _ _).Stores Finset.univ}
    {hm : (Finset.univ : Finset (Rect.unit (s := S256x2048) ![0, 0] S256x2048.size inb_S256x2048_S256x2048_0_0).shape.Idx) = Finset.univ ∨ ∀ a, (Rect.unit (s := S256x2048) ![0, 0] S256x2048.size inb_S256x2048_S256x2048_0_0).stride a = 1}
    {k : PUnit → Prog (TpuEff nD τ sig (Elt F) Λ₀ .tc) α} (hk : Rnd m c P X Y' ⊢ WP c (k ⟨⟩) Q) :
    Rnd m c P X Y ⊢ WP c (.op (.store wbM (Rect.unit (s := S256x2048) ![0, 0] S256x2048.size inb_S256x2048_S256x2048_0_0) Y' Finset.univ hx hm) k) Q := by
  unfold Rnd at hk ⊢
  iintro ⟨Hx, Hw, Hb, Hd, HP⟩
  iapply (store_all (b := cc0_scratch1) c (has_full c cc0_scratch1 hz inb_S256x2048_S256x2048_0_0) Y Y' iprop(has c xM (xstg m c) ∗ has c wM (wstg m c) ∗ has c xbM X ∗ P) (show _ ⊢ _ from by
    iintro ⟨Hd, Hx, Hw, Hb, HP⟩
    iapply hk
    isplitl [Hx]; · iexact Hx
    isplitl [Hw]; · iexact Hw
    isplitl [Hb]; · iexact Hb
    isplitl [Hd] <;> iassumption))
  isplitl [Hd]; · iexact Hd
  isplitl [Hx]; · iexact Hx
  isplitl [Hw]; · iexact Hw
  isplitl [Hb] <;> iassumption

/-! ## Into the exchanges -/

/-- What issuing each exchange needs besides the peer's landing slot. -/
def outbox : PR F := bigSep Finset.univ fun k : Key => iprop((∃ X, has (F := F) c (srcM k.1 k.2) X)
  ∗ dutyTok ER (sendCell k.1 k.2 c) 0 0 ∗ dutyTok ER (recvCell k.1 k.2 (peer k.1 k.2 c)) 0 0 ∗ atPos ER (sendCell k.1 k.2 c) 0 ∅ 0)
/-- The credit and position of each landing; the columns of the result, not written. -/
def inbox : PR F := bigSep Finset.univ fun k : Key => dstSt m c k false
def outs : PR F := bigSep Finset.univ fun t : Fin 6 => outSt m c t .junk

/-- What the body starts from. -/
def bodyPre : PR F :=
  Pro m c K iprop(has c xM (xstg m c) ∗ has c wM (wstg m c) ∗ (∃ X, has (F := F) c xbM X) ∗ (∃ Y, has (F := F) c wbM Y) ∗ outbox c ∗ inbox m c ∗ outs m c)
    (O₀ c) (fun _ => true)

/-- A slot whose peer's landing slot has come is ready to be written and issued. -/
theorem slot_full (k : Key) :
    iprop(((∃ X, has (F := F) c (srcM k.1 k.2) X)
        ∗ dutyTok ER (sendCell k.1 k.2 c) 0 0 ∗ dutyTok ER (recvCell k.1 k.2 (peer k.1 k.2 c)) 0 0 ∗ atPos ER (sendCell k.1 k.2 c) 0 ∅ 0)
      ∗ (∃ X, has (F := F) (peer k.1 k.2 c) (dstM k.1 k.2) X)) ⊢ srcSt m c k .junk := by
  unfold srcSt pend
  dsimp only
  iintro ⟨⟨H, H1⟩, HX⟩
  isplitl [H]; · iexact H
  isplitl [HX] <;> iassumption

/-- After the barrier: the state of the exchanges but for the two roundings. -/
theorem after_wait :
    iprop(iprop(has c xM (xstg m c) ∗ has c wM (wstg m c) ∗ (∃ X, has (F := F) c xbM X) ∗ (∃ Y, has (F := F) c wbM Y) ∗ outbox c ∗ inbox m c ∗ outs m c)
        ∗ recs m K ∗ levAts L lv ∗ (∃ W : Waits sig Unit, owes (c : Thread nD τ) (owed c fun _ => true) W) ∗ semVal (barCell c) 0 ∗ peers (F := F) c)
      ⊢ iprop(∃ X Y, Rnd m c iprop(semVal (barCell c) 0 ∗ recs m K ∗ levAts L lv ∗ (∃ W : Waits sig Unit, owes (c : Thread nD τ) (owed c fun _ => true) W)
        ∗ (bigSep Finset.univ fun k => srcSt m c k .junk) ∗ inbox m c ∗ outs m c) X Y) := by
  have hs : iprop(outbox (F := F) c ∗ peers (F := F) c) ⊢ bigSep Finset.univ fun k => srcSt m c k .junk := by
    unfold outbox peers
    rw [← bigSep_sep']
    exact bigSep_mono fun k _ => slot_full m c k
  iintro ⟨⟨Hx, Hw, ⟨%X, Hb⟩, ⟨%Y, Hd⟩, HOB, HI, HO⟩, #Hi, #Hl, HW, HV, HP⟩
  ihave Hs := hs $$ [HOB HP]
  · isplitl [HOB] <;> iassumption
  iexists X; iexists Y
  unfold Rnd
  isplitl [Hx]; · iexact Hx
  isplitl [Hw]; · iexact Hw
  isplitl [Hb]; · iexact Hb
  isplitl [Hd]; · iexact Hd
  isplitl [HV]; · iexact HV
  isplitr; · iexact Hi
  isplitr; · iexact Hl
  isplitl [HW]; · iexact HW
  isplitl [Hs]; · iexact Hs
  isplitl [HI] <;> iassumption

/-- After the roundings: the state of the exchanges, nothing issued. -/
theorem after_round :
    Rnd m c iprop(semVal (barCell c) 0 ∗ recs m K ∗ levAts L lv ∗ (∃ W : Waits sig Unit, owes (c : Thread nD τ) (owed c fun _ => true) W)
        ∗ (bigSep Finset.univ fun k => srcSt m c k .junk) ∗ inbox m c ∗ outs m c) (xb m c) (wb m c)
      ⊢ St m c K iprop(has c xM (xstg m c) ∗ has c wM (wstg m c) ∗ semVal (barCell c) 0) (fun _ => .junk) (fun _ => false) (fun _ => .junk) := by
  unfold Rnd St inbox outs
  iintro ⟨Hx, Hw, Hb, Hd, HV, Hi, Hl, HW, Hs, HI, HO⟩
  isplitl [Hx Hw HV]
  · isplitl [Hx]; · iexact Hx
    isplitl [Hw] <;> iassumption
  isplitl [Hi]; · iexact Hi
  isplitl [Hl]; · iexact Hl
  isplitl [HW]; · iexact HW
  isplitl [Hb]; · iexact Hb
  isplitl [Hd]; · iexact Hd
  isplitl [Hs]; · iexact Hs
  isplitl [HI] <;> iassumption

end Cert.Cube
-- ==== Proof.Buffers.lean ====
/-
# The buffers

The slots are a partition of the kernel's scratch buffers into bands of rows, and the streams' columns a partition of the
result's buffer.
-/
module

public import proofs.«01_k».proof.Proof.Prologue

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## A memref and a partition of it -/

section Rects
variable {sp : Space} {s : Shape} {e : EltTy} (M : Memref sig .tc sp s e) {T : Type} [Fintype T] [DecidableEq T] (r : T → Rect s)
  (hr : ∀ t a, (r t).stride a = 1) (hd : ∀ t t', t ≠ t' → Disjoint (r t).set (r t').set) (hcov : (Finset.univ : Finset T).biUnion (fun t => (r t).set) = Finset.univ)

include hd hcov in
theorem rects_out : iprop(∃ X, has (F := F) c M X) ⊢ bigSep Finset.univ fun t => iprop(∃ X, has (F := F) c (M.slice (r t) (hr t)) X) := by
  have h (X : s.Idx → Elt F e) (t : T) : has (F := F) c (M.slice (r t) (hr t)) (fun j => X ((r t).emb j)) ⊢ iprop(∃ X, has (F := F) c (M.slice (r t) (hr t)) X) := by
    iintro H; iexists (fun j => X ((r t).emb j)); iexact H
  exact exists_elim fun X => (owns_rects (c : Thread nD τ) M fullShare r hr hd hcov X).trans (bigSep_mono fun t _ => h X t)

include hd in
theorem rects_in (Z : (t : T) → (r t).shape.Idx → Elt F e) :
    (bigSep Finset.univ fun t => has (F := F) c (M.slice (r t) (hr t)) (Z t)) ⊢ has (F := F) c M (Rect.glue r hcov Z) := by
  have h (t : T) : (fun j => Rect.glue r hcov Z ((r t).emb j)) = Z t := funext fun j => Rect.glue_emb r hcov hd Z t j
  have h' := owns_of_rects (Ix := Unit) (Name := ℕ) (U := UU) (Lvl := ℕ) (Val := Elt F) (c : Thread nD τ) M fullShare r hr hd hcov (Rect.glue r hcov Z)
  rw [bigSep_congr fun t _ => by rw [h t]] at h'
  exact h'

include hd hcov in
theorem rects_some : (bigSep Finset.univ fun t => iprop(∃ X, has (F := F) c (M.slice (r t) (hr t)) X)) ⊢ iprop(∃ X, has (F := F) c M X) := by
  refine (BI.bigSep_exists_pi Finset.univ fun t X => has (F := F) c (M.slice (r t) (hr t)) X).trans (exists_elim fun Z => (rects_in c M r hr hd hcov Z).trans ?_)
  iintro H; iexists (Rect.glue r hcov Z); iexact H

end Rects

/-- Bands along the first axis, or the second, are a partition if their extents are one of its coordinates. -/
theorem bands_cover {n w : ℕ} {T : Type} [Fintype T] [DecidableEq T] {off sz : T → Fin 2 → ℕ} {inb : ∀ t a, off t a + sz t a ≤ (⟨2, ![n, w]⟩ : Shape).size a}
    (h0 : ∀ k < n, ∃ t, off t 0 ≤ k ∧ k < off t 0 + sz t 0) (h1 : ∀ t, off t 1 = 0 ∧ sz t 1 = w) :
    (Finset.univ : Finset T).biUnion (fun t => (Rect.unit (s := ⟨2, ![n, w]⟩) (off t) (sz t) (inb t)).set) = Finset.univ := by
  ext x
  obtain ⟨t, ht, ht'⟩ := h0 (x 0).val (x 0).isLt
  refine ⟨fun _ => Finset.mem_univ _, fun _ => Finset.mem_biUnion.mpr ⟨t, Finset.mem_univ _, Rect.mem_set_unit.mpr fun a => ?_⟩⟩
  match a with
  | 0 => exact ⟨ht, ht'⟩
  | 1 => rw [(h1 t).1, (h1 t).2, Nat.zero_add]; exact ⟨Nat.zero_le _, (x 1).isLt⟩
theorem cols_cover {n w : ℕ} {T : Type} [Fintype T] [DecidableEq T] {off sz : T → Fin 2 → ℕ} {inb : ∀ t a, off t a + sz t a ≤ (⟨2, ![n, w]⟩ : Shape).size a}
    (h0 : ∀ k < w, ∃ t, off t 1 ≤ k ∧ k < off t 1 + sz t 1) (h1 : ∀ t, off t 0 = 0 ∧ sz t 0 = n) :
    (Finset.univ : Finset T).biUnion (fun t => (Rect.unit (s := ⟨2, ![n, w]⟩) (off t) (sz t) (inb t)).set) = Finset.univ := by
  ext x
  obtain ⟨t, ht, ht'⟩ := h0 (x 1).val (x 1).isLt
  refine ⟨fun _ => Finset.mem_univ _, fun _ => Finset.mem_biUnion.mpr ⟨t, Finset.mem_univ _, Rect.mem_set_unit.mpr fun a => ?_⟩⟩
  match a with
  | 1 => exact ⟨ht, ht'⟩
  | 0 => rw [(h1 t).1, (h1 t).2, Nat.zero_add]; exact ⟨Nat.zero_le _, (x 0).isLt⟩

/-- The columns of the streams, in the result. -/
theorem crect_cover : (Finset.univ : Finset (Fin 6)).biUnion (fun t => (crect t).set) = Finset.univ :=
  cols_cover (n := 256) (w := 2048) (off := cols) (sz := fun t => (TV t).size) (inb := cols_inb) (by decide +kernel) (by decide)
theorem crect_disjoint (t t' : Fin 6) (h : t ≠ t') : Disjoint (crect t).set (crect t').set :=
  Rect.unit_disjoint 1 ((by decide : ∀ t t' : Fin 6, t ≠ t' → cols t 1 + (TV t).size 1 ≤ cols t' 1 ∨ cols t' 1 + (TV t').size 1 ≤ cols t 1) t t' h)

/-- Device `c`'s block of the result. -/
def outAt : Vec F S256x2048 .f32 := Rect.glue crect crect_cover (outv m c)

theorem outs_out : iprop(∃ X, has (F := F) c oM X) ⊢ outs m c := by
  unfold outs outSt
  exact rects_out c oM crect (fun _ _ => rfl) crect_disjoint crect_cover
theorem outs_in : (bigSep Finset.univ fun t => outSt m c t .done) ⊢ has c oM (outAt m c) := by
  unfold outSt outAt
  exact rects_in c oM crect (fun _ _ => rfl) crect_disjoint crect_cover (outv m c)

/-! ## The slots in their buffers -/

section Slots
variable (t : Fin 6)

def r4 : Fin 4 → Rect (⟨2, ![1024, W t]⟩ : Shape) := fun i => Rect.unit (s := ⟨2, ![1024, W t]⟩) (rows (i.castLE (by decide))) (TV t).size (by revert t i; decide)
def r2 : Fin 2 → Rect (⟨2, ![512, W t]⟩ : Shape) := fun i => Rect.unit (s := ⟨2, ![512, W t]⟩) (rows (4 + i.castLE (by decide))) (TV t).size (by revert t i; decide)
def r1 : Fin 1 → Rect (⟨2, ![256, W t]⟩ : Shape) := fun i => Rect.unit (s := ⟨2, ![256, W t]⟩) (rows 6) (TV t).size (by revert t; decide)

theorem r4_cover : (Finset.univ : Finset (Fin 4)).biUnion (fun i => (r4 t i).set) = Finset.univ :=
  bands_cover (n := 1024) (w := W t) (off := fun i : Fin 4 => rows (i.castLE (by decide))) (sz := fun _ => (TV t).size) (inb := by revert t; decide)
    ((by decide +kernel : ∀ k < 1024, ∃ i : Fin 4, rows (i.castLE (by decide)) 0 ≤ k ∧ k < rows (i.castLE (by decide)) 0 + 256)) (by revert t; decide)
theorem r2_cover : (Finset.univ : Finset (Fin 2)).biUnion (fun i => (r2 t i).set) = Finset.univ :=
  bands_cover (n := 512) (w := W t) (off := fun i : Fin 2 => rows (4 + i.castLE (by decide))) (sz := fun _ => (TV t).size) (inb := by revert t; decide)
    ((by decide +kernel : ∀ k < 512, ∃ i : Fin 2, rows (4 + i.castLE (by decide)) 0 ≤ k ∧ k < rows (4 + i.castLE (by decide)) 0 + 256)) (by revert t; decide)
theorem r1_cover : (Finset.univ : Finset (Fin 1)).biUnion (fun i => (r1 t i).set) = Finset.univ :=
  bands_cover (n := 256) (w := W t) (off := fun i : Fin 1 => rows 6) (sz := fun _ => (TV t).size) (inb := by revert t; decide)
    ((by decide +kernel : ∀ k < 256, ∃ i : Fin 1, rows 6 0 ≤ k ∧ k < rows 6 0 + 256)) (by revert t; decide)
theorem r4_disjoint (i j : Fin 4) (h : i ≠ j) : Disjoint (r4 t i).set (r4 t j).set :=
  Rect.unit_disjoint 0 ((by decide : ∀ i j : Fin 4, i ≠ j → rows (i.castLE (by decide)) 0 + 256 ≤ rows (j.castLE (by decide)) 0 ∨ rows (j.castLE (by decide)) 0 + 256 ≤ rows (i.castLE (by decide)) 0) i j h)
theorem r2_disjoint (i j : Fin 2) (h : i ≠ j) : Disjoint (r2 t i).set (r2 t j).set :=
  Rect.unit_disjoint 0 ((by decide : ∀ i j : Fin 2, i ≠ j → rows (4 + i.castLE (by decide)) 0 + 256 ≤ rows (4 + j.castLE (by decide)) 0 ∨ rows (4 + j.castLE (by decide)) 0 + 256 ≤ rows (4 + i.castLE (by decide)) 0) i j h)
theorem r1_disjoint (i j : Fin 1) (h : i ≠ j) : Disjoint (r1 t i).set (r1 t j).set := absurd (Subsingleton.elim i j) h

variable (B1 : Memref sig .tc .vmem ⟨2, ![1024, W t]⟩ .bf16) (B2 : Memref sig .tc .vmem ⟨2, ![512, W t]⟩ .bf16)
  (B3 : Memref sig .tc .vmem ⟨2, ![256, W t]⟩ .bf16)

/-- The buffer of each exchange, of three; its slot. -/
def pick : (e : Fin 7) → Memref sig .tc .vmem (TB t e) .bf16
  | 0 => B1 | 1 => B1 | 2 => B1 | 3 => B1 | 4 => B2 | 5 => B2 | 6 => B3
def slot (e : Fin 7) : PR F := iprop(∃ X, has (F := F) c ((pick t B1 B2 B3 e).slice (rect t e) (fun _ => rfl)) X)

omit [FloatOps F] in
theorem slots_list : (bigSep Finset.univ fun e => slot (F := F) c t B1 B2 B3 e)
    = iprop(slot c t B1 B2 B3 0 ∗ slot c t B1 B2 B3 1 ∗ slot c t B1 B2 B3 2 ∗ slot c t B1 B2 B3 3 ∗ slot c t B1 B2 B3 4 ∗ slot c t B1 B2 B3 5 ∗ slot c t B1 B2 B3 6) :=
  bigSep_univ_eq_bigSepL [0, 1, 2, 3, 4, 5, 6] (by decide) (by decide) _

theorem bufs_out : iprop((∃ X, has (F := F) c B1 X) ∗ (∃ X, has (F := F) c B2 X) ∗ (∃ X, has (F := F) c B3 X))
    ⊢ bigSep Finset.univ fun e => slot (F := F) c t B1 B2 B3 e := by
  have h1 : iprop(∃ X, has (F := F) c B1 X) ⊢ iprop(slot c t B1 B2 B3 0 ∗ slot c t B1 B2 B3 1 ∗ slot c t B1 B2 B3 2 ∗ slot c t B1 B2 B3 3) :=
    (rects_out c B1 (r4 t) (fun _ _ => rfl) (r4_disjoint t) (r4_cover t)).trans (Entails.of_eq (bigSep_univ_eq_bigSepL [0, 1, 2, 3] (by decide) (by decide) _))
  have h2 : iprop(∃ X, has (F := F) c B2 X) ⊢ iprop(slot c t B1 B2 B3 4 ∗ slot c t B1 B2 B3 5) :=
    (rects_out c B2 (r2 t) (fun _ _ => rfl) (r2_disjoint t) (r2_cover t)).trans (Entails.of_eq (bigSep_univ_eq_bigSepL [0, 1] (by decide) (by decide) _))
  have h3 : iprop(∃ X, has (F := F) c B3 X) ⊢ slot c t B1 B2 B3 6 :=
    (rects_out c B3 (r1 t) (fun _ _ => rfl) (r1_disjoint t) (r1_cover t)).trans (Entails.of_eq (bigSep_univ_eq_bigSepL [0] (by decide) (by decide) _))
  rw [slots_list]
  iintro ⟨H1, H2, H3⟩
  ihave H1 := h1 $$ H1
  ihave H2 := h2 $$ H2
  ihave H3 := h3 $$ H3
  icases H1 with ⟨Ha, Hb, Hc, Hd⟩
  icases H2 with ⟨He, Hf⟩
  isplitl [Ha]; · iexact Ha
  isplitl [Hb]; · iexact Hb
  isplitl [Hc]; · iexact Hc
  isplitl [Hd]; · iexact Hd
  isplitl [He]; · iexact He
  isplitl [Hf] <;> iassumption

theorem bufs_in : (bigSep Finset.univ fun e => slot (F := F) c t B1 B2 B3 e)
    ⊢ iprop((∃ X, has (F := F) c B1 X) ∗ (∃ X, has (F := F) c B2 X) ∗ (∃ X, has (F := F) c B3 X)) := by
  have h1 : iprop(slot c t B1 B2 B3 0 ∗ slot c t B1 B2 B3 1 ∗ slot c t B1 B2 B3 2 ∗ slot c t B1 B2 B3 3) ⊢ iprop(∃ X, has (F := F) c B1 X) :=
    (Entails.of_eq (bigSep_univ_eq_bigSepL [0, 1, 2, 3] (by decide) (by decide) fun i => iprop(∃ X, has (F := F) c (B1.slice (r4 t i) (fun _ => rfl)) X)).symm).trans
      (rects_some c B1 (r4 t) (fun _ _ => rfl) (r4_disjoint t) (r4_cover t))
  have h2 : iprop(slot c t B1 B2 B3 4 ∗ slot c t B1 B2 B3 5) ⊢ iprop(∃ X, has (F := F) c B2 X) :=
    (Entails.of_eq (bigSep_univ_eq_bigSepL [0, 1] (by decide) (by decide) fun i => iprop(∃ X, has (F := F) c (B2.slice (r2 t i) (fun _ => rfl)) X)).symm).trans
      (rects_some c B2 (r2 t) (fun _ _ => rfl) (r2_disjoint t) (r2_cover t))
  have h3 : slot c t B1 B2 B3 6 ⊢ iprop(∃ X, has (F := F) c B3 X) :=
    (Entails.of_eq (bigSep_univ_eq_bigSepL [0] (by decide) (by decide) fun i => iprop(∃ X, has (F := F) c (B3.slice (r1 t i) (fun _ => rfl)) X)).symm).trans
      (rects_some c B3 (r1 t) (fun _ _ => rfl) (r1_disjoint t) (r1_cover t))
  rw [slots_list]
  iintro ⟨Ha, Hb, Hc, Hd, He, Hf, Hg⟩
  isplitl [Ha Hb Hc Hd]
  · iapply h1
    isplitl [Ha]; · iexact Ha
    isplitl [Hb]; · iexact Hb
    isplitl [Hc] <;> iassumption
  isplitl [He Hf]
  · iapply h2
    isplitl [He] <;> iassumption
  iapply h3
  iexact Hg

theorem pick_src (e : Fin 7) : srcB t e = pick t (s1M t) (s2M t) (s3M t) e := match e with | 0 => rfl | 1 => rfl | 2 => rfl | 3 => rfl | 4 => rfl | 5 => rfl | 6 => rfl
theorem pick_dst (e : Fin 7) : dstB t e = pick t (r1M t) (r2M t) (r3M t) e := match e with | 0 => rfl | 1 => rfl | 2 => rfl | 3 => rfl | 4 => rfl | 5 => rfl | 6 => rfl

end Slots

/-! ## The scratch buffers -/

/-- The send and landing buffers of each stream. -/
def bref : Fin 6 × (Fin 3 ⊕ Fin 3) → Ref sig .tc
  | (t, .inl j) => (![![cc0_scratch2, cc0_scratch4, cc0_scratch6], ![cc0_scratch10, cc0_scratch12, cc0_scratch14], ![cc0_scratch18, cc0_scratch20, cc0_scratch22], ![cc0_scratch26, cc0_scratch28, cc0_scratch30], ![cc0_scratch34, cc0_scratch36, cc0_scratch38], ![cc0_scratch42, cc0_scratch44, cc0_scratch46]] : Fin 6 → Fin 3 → Ref sig .tc) t j
  | (t, .inr j) => (![![cc0_scratch3, cc0_scratch5, cc0_scratch7], ![cc0_scratch11, cc0_scratch13, cc0_scratch15], ![cc0_scratch19, cc0_scratch21, cc0_scratch23], ![cc0_scratch27, cc0_scratch29, cc0_scratch31], ![cc0_scratch35, cc0_scratch37, cc0_scratch39], ![cc0_scratch43, cc0_scratch45, cc0_scratch47]] : Fin 6 → Fin 3 → Ref sig .tc) t j
def sref : Fin 2 ⊕ Fin 6 × (Fin 3 ⊕ Fin 3) → Ref sig .tc
  | .inl j => (![cc0_scratch0, cc0_scratch1] : Fin 2 → Ref sig .tc) j
  | .inr x => bref x
theorem sref_injective : Function.Injective sref := by decide +kernel
theorem scratch_eq : (Finset.univ.filter fun b : Ref sig .tc => b.isScoped) \ Finset.univ.image (Pipeline.stageRef cfg0.spec) = Finset.univ.map ⟨sref, sref_injective⟩ := by
  decide +kernel

omit [FloatOps F] in
theorem has_whole (b : Ref sig .tc) (X : b.ty.Contents (Elt F)) :
    has (F := F) c (Memref.whole b) X = (((c : Thread nD τ).loc b) ↦{fullShare} X : sProp 𝕄) := by
  unfold has owns; simp only [Memref.view_whole, View.read_whole, View.set_whole]
  refine equiv_iff.mp ⟨(?_ : iprop(∃ f : Buf (Elt F) ((c : Thread nD τ).loc b), ⌜f = X⌝ ∗ (((c : Thread nD τ).loc b) ↦{fullShare} f)) ⊢ (((c : Thread nD τ).loc b) ↦{fullShare} X : sProp 𝕄)), (?_ : (((c : Thread nD τ).loc b) ↦{fullShare} X : sProp 𝕄) ⊢ iprop(∃ f : Buf (Elt F) ((c : Thread nD τ).loc b), ⌜f = X⌝ ∗ (((c : Thread nD τ).loc b) ↦{fullShare} f)))⟩
  · iintro ⟨%f, %hf, H⟩
    subst hf
    iexact H
  · iintro H
    iexists X
    isplitr; · ipureintro; rfl
    iexact H
omit [FloatOps F] in
theorem has_some (b : Ref sig .tc) : iprop(∃ X, has (F := F) c (Memref.whole b) X) = iprop(∃ f : Buf (Elt F) ((c : Thread nD τ).loc b), (((c : Thread nD τ).loc b) ↦{fullShare} f : sProp 𝕄)) := by
  congr 1; funext X; exact has_whole c b X

/-- The buffers of a stream. -/
def bufs (t : Fin 6) : PR F := iprop(((∃ X, has (F := F) c (s1M t) X) ∗ (∃ X, has (F := F) c (s2M t) X) ∗ (∃ X, has (F := F) c (s3M t) X))
  ∗ (∃ X, has (F := F) c (r1M t) X) ∗ (∃ X, has (F := F) c (r2M t) X) ∗ (∃ X, has (F := F) c (r3M t) X))
def scratch : PR F := iprop(((∃ X, has (F := F) c xbM X) ∗ (∃ X, has (F := F) c wbM X)) ∗ bigSep Finset.univ fun t => bufs (F := F) c t)

omit [FloatOps F] in
theorem scopedRest_eq : (Pipeline.scopedRest (Ix := Unit) (Name := ℕ) (U := UU) (Lvl := ℕ) (Val := Elt F) cfg0.spec c : sProp 𝕄) = scratch c := by
  have h3 (Φ : Fin 3 → sProp 𝕄) : bigSep Finset.univ Φ = iprop(Φ 0 ∗ Φ 1 ∗ Φ 2) := bigSep_univ_eq_bigSepL [0, 1, 2] (by decide) (by decide) Φ
  have h2 (Φ : Fin 2 → sProp 𝕄) : bigSep Finset.univ Φ = iprop(Φ 0 ∗ Φ 1) := bigSep_univ_eq_bigSepL [0, 1] (by decide) (by decide) Φ
  unfold Pipeline.scopedRest scratch
  rw [scratch_eq, bigSep_map, bigSep_univ_sum, h2, bigSep_univ_prod]
  refine congrArg₂ _ (congrArg₂ _ (has_some c cc0_scratch0).symm (has_some c cc0_scratch1).symm) (bigSep_congr fun t _ => ?_)
  rw [bigSep_univ_sum, h3, h3]
  unfold bufs
  match t with
  | 0 => exact congrArg₂ _ (congrArg₂ _ (has_some c cc0_scratch2).symm (congrArg₂ _ (has_some c cc0_scratch4).symm (has_some c cc0_scratch6).symm)) (congrArg₂ _ (has_some c cc0_scratch3).symm (congrArg₂ _ (has_some c cc0_scratch5).symm (has_some c cc0_scratch7).symm))
  | 1 => exact congrArg₂ _ (congrArg₂ _ (has_some c cc0_scratch10).symm (congrArg₂ _ (has_some c cc0_scratch12).symm (has_some c cc0_scratch14).symm)) (congrArg₂ _ (has_some c cc0_scratch11).symm (congrArg₂ _ (has_some c cc0_scratch13).symm (has_some c cc0_scratch15).symm))
  | 2 => exact congrArg₂ _ (congrArg₂ _ (has_some c cc0_scratch18).symm (congrArg₂ _ (has_some c cc0_scratch20).symm (has_some c cc0_scratch22).symm)) (congrArg₂ _ (has_some c cc0_scratch19).symm (congrArg₂ _ (has_some c cc0_scratch21).symm (has_some c cc0_scratch23).symm))
  | 3 => exact congrArg₂ _ (congrArg₂ _ (has_some c cc0_scratch26).symm (congrArg₂ _ (has_some c cc0_scratch28).symm (has_some c cc0_scratch30).symm)) (congrArg₂ _ (has_some c cc0_scratch27).symm (congrArg₂ _ (has_some c cc0_scratch29).symm (has_some c cc0_scratch31).symm))
  | 4 => exact congrArg₂ _ (congrArg₂ _ (has_some c cc0_scratch34).symm (congrArg₂ _ (has_some c cc0_scratch36).symm (has_some c cc0_scratch38).symm)) (congrArg₂ _ (has_some c cc0_scratch35).symm (congrArg₂ _ (has_some c cc0_scratch37).symm (has_some c cc0_scratch39).symm))
  | 5 => exact congrArg₂ _ (congrArg₂ _ (has_some c cc0_scratch42).symm (congrArg₂ _ (has_some c cc0_scratch44).symm (has_some c cc0_scratch46).symm)) (congrArg₂ _ (has_some c cc0_scratch43).symm (congrArg₂ _ (has_some c cc0_scratch45).symm (has_some c cc0_scratch47).symm))

/-- The slots out of the buffers, and back. -/
def srcs : PR F := bigSep Finset.univ fun k : Key => iprop(∃ X, has (F := F) c (srcM k.1 k.2) X)

omit [FloatOps F] in
theorem srcs_eq : srcs (F := F) c = bigSep Finset.univ fun t => bigSep Finset.univ fun e => slot (F := F) c t (s1M t) (s2M t) (s3M t) e := by
  unfold srcs slot
  rw [bigSep_univ_prod]
  exact bigSep_congr fun t _ => bigSep_congr fun e _ => by dsimp only [srcM]; rw [pick_src]; rfl
omit [FloatOps F] in
theorem slots_eq : slots (F := F) c = bigSep Finset.univ fun t => bigSep Finset.univ fun e => slot (F := F) c t (r1M t) (r2M t) (r3M t) e := by
  unfold slots slot
  rw [bigSep_univ_prod]
  exact bigSep_congr fun t _ => bigSep_congr fun e _ => by dsimp only [dstM]; rw [pick_dst]; rfl

theorem scratch_out : scratch (F := F) c ⊢ iprop(((∃ X, has (F := F) c xbM X) ∗ (∃ X, has (F := F) c wbM X)) ∗ srcs c ∗ slots c) := by
  unfold scratch
  rw [srcs_eq, slots_eq, ← bigSep_sep']
  exact sep_mono_right (bigSep_mono fun t _ => BI.sep_mono (bufs_out c t _ _ _) (bufs_out c t _ _ _))
theorem scratch_in : iprop(((∃ X, has (F := F) c xbM X) ∗ (∃ X, has (F := F) c wbM X)) ∗ srcs c ∗ slots c) ⊢ scratch (F := F) c := by
  unfold scratch
  rw [srcs_eq, slots_eq, ← bigSep_sep']
  exact sep_mono_right (bigSep_mono fun t _ => BI.sep_mono (bufs_in c t _ _ _) (bufs_in c t _ _ _))

end Cert.Cube
-- ==== Proof.Sum.lean ====
/-
# The sum over the devices

An entry of the result is the sum, over the eight devices, of the products of the device's own terms: each device's term
reaches the owner of the row block once, whichever way its stream goes round the cube. All together that is the entry of
the product of the whole matrices.
-/
module

public import proofs.«01_k».proof.Proof.Payloads
public import proofs.«01_k».proof.Proof.Buffers
public import Idealize.ShloMosaic.Lib.Layout

@[expose] public section

noncomputable section

namespace Cert.Cube

open Cert.KernelIdeal Cert.KernelIdeal.Gen
open Idealize.ShloMosaic Idealize.ShloMosaic.TcCoe

theorem cols_zero : ∀ t, cols t 0 = 0 := by decide

variable (m : (ℓ : Loc nD τ sig) → Buf (Elt Ideal) ℓ) (c : Dev nD) (t : Fin 6)

/-! ## Whose rows -/

/-- Where device `c`'s rows start. -/
abbrev rowOff (c : Dev nD) : Fin 2 → ℕ := ![256 * c.val, 0]
theorem rowOff_inb (c : Dev nD) : ∀ a, rowOff c a + S256x256.size a ≤ S2048x256.size a := by revert c; decide

theorem off_own : k0_off8 c = rowOff c := by revert c; decide
theorem off_3 : offOf t 3 (peer t 3 c) = rowOff c := by revert t c; decide
theorem off_5 : offOf t 5 (peer t 5 c) = rowOff c := by revert t c; decide
theorem off_1 : offOf t 1 (peer t 1 (peer t 5 c)) = rowOff c := by revert t c; decide
theorem off_6 : offOf t 6 (peer t 6 c) = rowOff c := by revert t c; decide
theorem off_2 : offOf t 2 (peer t 2 (peer t 6 c)) = rowOff c := by revert t c; decide
theorem off_4 : offOf t 4 (peer t 4 (peer t 6 c)) = rowOff c := by revert t c; decide
theorem off_0 : offOf t 0 (peer t 0 (peer t 4 (peer t 6 c))) = rowOff c := by revert t c; decide

theorem xblk_congr {d : Dev nD} {off off' : Fin 2 → ℕ} (h : off = off') (hi : ∀ a, off a + S256x256.size a ≤ S2048x256.size a) (hi') :
    xblk m d off hi = xblk m d off' hi' := by subst h; rfl

variable (i : (TV t).Idx)

/-- Device `d`'s term of entry `i` of device `c`'s block. -/
def term (d : Dev nD) : EReal := dotAt t i (xblk m d (rowOff c) (rowOff_inb c)) (wblk m d t)

theorem part_term {e : Fin 7} {d : Dev nD} (h : offOf t e d = rowOff c) : part m d t e i = term m c t i d := by
  unfold part term; rw [mmB_apply, xblk_congr m h _ (rowOff_inb c)]
theorem own_term : own0 m c t i = term m c t i c := by
  unfold own0 term; rw [mmF_apply, xblk_congr m (off_own c) _ (rowOff_inb c)]

/-- The devices in the order their terms are met. -/
def order : Fin 8 → Dev nD :=
  ![c, peer t 3 c, peer t 5 c, peer t 1 (peer t 5 c), peer t 6 c, peer t 2 (peer t 6 c), peer t 4 (peer t 6 c), peer t 0 (peer t 4 (peer t 6 c))]
/-- Each device is met once. -/
theorem order_bijective : Function.Bijective (order c t) := by
  have : Function.Injective (order c t) := by revert c t; decide
  exact (Fintype.bijective_iff_injective_and_card _).mpr ⟨this, rfl⟩

theorem outv_sum : outv m c t i = silu (∑ d : Dev nD, term m c t i d) := by
  have h3 : landed m c t 3 i = term m c t i (peer t 3 c) := part_term m c t i (off_3 c t)
  have h5 : landed m c t 5 i = term m c t i (peer t 5 c) + term m c t i (peer t 1 (peer t 5 c)) := by
    rw [← part_term m c t i (off_5 c t), ← part_term m c t i (off_1 c t)]
    exact add2_apply t i _ _
  have h6 : landed m c t 6 i = term m c t i (peer t 6 c) + term m c t i (peer t 2 (peer t 6 c))
      + (term m c t i (peer t 4 (peer t 6 c)) + term m c t i (peer t 0 (peer t 4 (peer t 6 c)))) := by
    rw [← part_term m c t i (off_6 c t), ← part_term m c t i (off_2 c t), ← part_term m c t i (off_4 c t), ← part_term m c t i (off_0 c t)]
    exact (add3_apply t i _ _ _).trans (congrArg _ (add2_apply t i _ _))
  unfold outv
  rw [fin4_apply, own_term, h3, h5, h6, ← (order_bijective c t).sum_comp (term m c t i), Fin.sum_univ_eight]
  refine congrArg silu ?_
  show _ = term m c t i c + term m c t i (peer t 3 c) + term m c t i (peer t 5 c) + term m c t i (peer t 1 (peer t 5 c))
    + term m c t i (peer t 6 c) + term m c t i (peer t 2 (peer t 6 c)) + term m c t i (peer t 4 (peer t 6 c))
    + term m c t i (peer t 0 (peer t 4 (peer t 6 c)))
  simp only [add_assoc]

/-! ## The whole matrices -/

abbrev Sq : Shape := ⟨2, ![2048, 2048]⟩

/-- Entry `(r, l)` of the product. -/
def prodAt (x w : Sq.Idx → EReal) (r l : Fin 2048) : EReal := ∑ k : Fin 2048, x (ix2 r k) * w (ix2 k l)

/-- A sum over 2048 is a sum of eight sums over 256. -/
theorem sum_blocks (f : Fin 2048 → EReal) : (∑ d : Fin 8, ∑ k : Fin 256, f ⟨d.val * 256 + k.val, by omega⟩) = ∑ k, f k := by
  rw [← Fintype.sum_prod_type']
  refine (Finset.sum_congr rfl fun p _ => ?_).trans ((finProdFinEquiv (m := 8) (n := 256)).sum_comp f)
  refine congrArg f (Fin.ext ?_)
  show p.1.val * 256 + p.2.val = p.2.val + 256 * p.1.val
  omega

theorem row_lt (c : Dev nD) (k : Fin 256) : c.val * 256 + k.val < 2048 := by have : c.val < 8 := c.isLt; omega
theorem col_lt (t : Fin 6) (l : Fin (W t)) : cols t 1 + l.val < 2048 := by
  have h : cols t 1 + W t ≤ 2048 := cols_inb t 1
  omega

variable {m} {x w : Sq.Idx → EReal} {hX : Layout.Tiles S2048x256 Sq 1 8} {hW : Layout.Tiles S256x2048 Sq 0 8}

theorem outv_prod (hx : ∀ d, xb m d = Layout.block S2048x256 Sq 1 8 d x hX) (hw : ∀ d, wb m d = Layout.block S256x2048 Sq 0 8 d w hW) :
    outv m c t i = silu (prodAt x w ⟨c.val * 256 + (i 0 : Fin 256).val, row_lt c (i 0)⟩
      ⟨cols t 1 + (i 1 : Fin (W t)).val, col_lt t (i 1)⟩) := by
  rw [outv_sum]
  unfold prodAt
  rw [← sum_blocks]
  refine congrArg silu (Finset.sum_congr rfl fun d _ => ?_)
  unfold term dotAt
  refine Finset.sum_congr rfl fun k _ => ?_
  have e1 : xblk m d (rowOff c) (rowOff_inb c) (ix2 (i 0 : Fin 256) k) = x (ix2 ⟨c.val * 256 + (i 0 : Fin 256).val, row_lt c (i 0)⟩ ⟨d.val * 256 + k.val, row_lt d k⟩) := by
    unfold xblk; rw [hx d]
    refine congrArg x (funext fun a => Fin.ext ?_)
    match a with
    | 0 => show 256 * c.val + 1 * (i 0 : Fin 256).val = c.val * 256 + (i 0 : Fin 256).val; omega
    | 1 => show d.val * 256 + (0 + 1 * k.val) = d.val * 256 + k.val; omega
  have e2 : wblk m d t (ix2 k (i 1 : Fin (W t))) = w (ix2 ⟨d.val * 256 + k.val, row_lt d k⟩ ⟨cols t 1 + (i 1 : Fin (W t)).val, col_lt t (i 1)⟩) := by
    unfold wblk; rw [hw d]
    refine congrArg w (funext fun a => Fin.ext ?_)
    match a with
    | 0 => show d.val * 256 + (cols t 0 + 1 * k.val) = d.val * 256 + k.val; rw [cols_zero t]; omega
    | 1 => show cols t 1 + 1 * (i 1 : Fin (W t)).val = cols t 1 + (i 1 : Fin (W t)).val; omega
  exact congrArg₂ (· * ·) e1 e2

/-- Every entry of the result's block. -/
theorem outAt_prod (hx : ∀ d, xb m d = Layout.block S2048x256 Sq 1 8 d x hX) (hw : ∀ d, wb m d = Layout.block S256x2048 Sq 0 8 d w hW)
    (hO : Layout.Tiles S256x2048 Sq 0 8) :
    outAt m c = Layout.block S256x2048 Sq 0 8 c (fun j => silu (prodAt x w (j 0) (j 1))) hO := by
  funext j
  have hj := Finset.mem_univ j
  rw [← crect_cover, Finset.mem_biUnion] at hj
  obtain ⟨t, _, ht⟩ := hj
  rw [← Rect.map_emb_univ, Finset.mem_map] at ht
  obtain ⟨i, _, rfl⟩ := ht
  unfold outAt
  rw [Rect.glue_emb crect crect_cover crect_disjoint, outv_prod c t i hx hw]
  refine congrArg silu (congrArg₂ (prodAt x w) (Fin.ext ?_) (Fin.ext ?_))
  · show c.val * 256 + (i 0 : Fin 256).val = c.val * 256 + (cols t 0 + 1 * (i 0).val)
    rw [cols_zero t]; omega
  · show cols t 1 + (i 1 : Fin (W t)).val = cols t 1 + 1 * (i 1).val
    omega

end Cert.Cube
-- ==== Proof.Blocks.lean ====
/-
# The exchanges, block by block

The body is a sequence of a few kinds of blocks: a product written to a send slot, or to the device's own columns of the
result; the same issued at once; a landed term added to a send slot and the sum issued; the final sum of a stream's
columns; and the wait for the sends of a stream.  Each is the sequence of its operations.
-/
module

public import proofs.«01_k».proof.Proof.Prologue

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)
variable (c : Dev nD) (K : Dev nD × CIx → ℕ) (R : PR F)
variable {α : Type} {Q : α → PR F} {σ : Key → Sl} {r : Key → Bool} {o : Fin 6 → Ol}

/-- The device of the body is `c`. -/
theorem st_dev {P : PR F} {k : Dev nD → Prog (TpuEff nD τ sig (Elt F) Λ₀ .tc) α} (h : P ⊢ WP c (k c) Q) :
    P ⊢ WP c (.op .deviceId k) Q := by
  unfold WP
  rw [wp_deviceId]
  exact h

theorem st_ret {P : PR F} {v : α} (h : P ⊢ Q v) : P ⊢ WP c (.ret v) Q := by
  unfold WP
  rw [wp_ret]
  exact h.trans fupd_intro

section Block
variable (t : Fin 6) (e : Fin 7)

/-- A product into a send slot. -/
theorem blk_part (hσ : σ (t, e) = .junk) {off : Fin 2 → ℕ} {h : ∀ a, off a + S256x256.size a ≤ S2048x256.size a}
    {p : Vec F S256x256 .bf16 → Vec F (TV t) .bf16 → Vec F (TV t) .bf16} (hp : p (xblk m c off h) (wblk m c t) = part m c t e)
    {h1 : (xbM : Memref sig .tc .vmem S2048x256 .bf16).view.LoadsAt (Rect.unit (s := S2048x256) off S256x256.size h).toLoadRect} {h2 : (wbM : Memref sig .tc .vmem S256x2048 .bf16).view.LoadsAt (crect t).toLoadRect}
    {h3 : (srcB t e).view.LoadsAt (rect t e).toLoadRect}
    {hx : ((srcB t e).access (rect t e) : View sig .tc _ _ _).Stores Finset.univ} {hm : (Finset.univ : Finset (rect t e).shape.Idx) = Finset.univ ∨ ∀ a, (rect t e).stride a = 1}
    {k : PUnit → Prog (TpuEff nD τ sig (Elt F) Λ₀ .tc) α} (hk : St m c K R (Function.update σ (t, e) .part) r o ⊢ WP c (k ⟨⟩) Q) :
    St m c K R σ r o ⊢ WP c (.op (.load (xbM) (Rect.unit (s := S2048x256) off S256x256.size h).toLoadRect h1) fun a =>
      .op (.load (wbM) (crect t).toLoadRect h2) fun b =>
      .op (.load (srcB t e) (rect t e).toLoadRect h3) fun _ =>
      .op (.store (srcB t e) (rect t e) (p a b) Finset.univ hx hm) k) Q :=
  st_ldx m c K R (st_ldw m c K R t (st_lds_junk m c K R t e hσ fun _ => st_sts_part m c K R t e hσ hp hk))

/-- A product into the device's own columns of the result. -/
theorem blk_own (ho : o t = .junk) {off : Fin 2 → ℕ} {h : ∀ a, off a + S256x256.size a ≤ S2048x256.size a}
    {p : Vec F S256x256 .bf16 → Vec F (TV t) .bf16 → Vec F (TV t) .f32} (hp : p (xblk m c off h) (wblk m c t) = own0 m c t)
    {h1 : (xbM : Memref sig .tc .vmem S2048x256 .bf16).view.LoadsAt (Rect.unit (s := S2048x256) off S256x256.size h).toLoadRect} {h2 : (wbM : Memref sig .tc .vmem S256x2048 .bf16).view.LoadsAt (crect t).toLoadRect}
    {h3 : (oM : Memref sig .tc .vmem S256x2048 .f32).view.LoadsAt (crect t).toLoadRect}
    {hx : ((oM : Memref sig .tc .vmem S256x2048 .f32).access (crect t) : View sig .tc _ _ _).Stores Finset.univ} {hm : (Finset.univ : Finset (crect t).shape.Idx) = Finset.univ ∨ ∀ a, (crect t).stride a = 1}
    {k : PUnit → Prog (TpuEff nD τ sig (Elt F) Λ₀ .tc) α} (hk : St m c K R σ r (Function.update o t .part) ⊢ WP c (k ⟨⟩) Q) :
    St m c K R σ r o ⊢ WP c (.op (.load (xbM) (Rect.unit (s := S2048x256) off S256x256.size h).toLoadRect h1) fun a =>
      .op (.load (wbM) (crect t).toLoadRect h2) fun b =>
      .op (.load (oM) (crect t).toLoadRect h3) fun _ =>
      .op (.store (oM) (crect t) (p a b) Finset.univ hx hm) k) Q :=
  st_ldx m c K R (st_ldw m c K R t (st_ldo_junk m c K R t ho fun _ => st_sto_part m c K R t ho hp hk))

/-- A product into a send slot that is sent as it is. -/
theorem blk_send (hσ : σ (t, e) = .junk) (hs : part m c t e = sent m c t e) {off : Fin 2 → ℕ} {h : ∀ a, off a + S256x256.size a ≤ S2048x256.size a}
    {p : Vec F S256x256 .bf16 → Vec F (TV t) .bf16 → Vec F (TV t) .bf16} (hp : p (xblk m c off h) (wblk m c t) = part m c t e)
    {h1 : (xbM : Memref sig .tc .vmem S2048x256 .bf16).view.LoadsAt (Rect.unit (s := S2048x256) off S256x256.size h).toLoadRect} {h2 : (wbM : Memref sig .tc .vmem S256x2048 .bf16).view.LoadsAt (crect t).toLoadRect}
    {h3 : (srcB t e).view.LoadsAt (rect t e).toLoadRect}
    {hx : ((srcB t e).access (rect t e) : View sig .tc _ _ _).Stores Finset.univ} {hm : (Finset.univ : Finset (rect t e).shape.Idx) = Finset.univ ∨ ∀ a, (rect t e).stride a = 1}
    {n : Dev nD} (hn : n = peer t e c) {qs qr : DmaSem sig} (hqs : qs = sendQ t e) (hqr : qr = recvQ t e)
    {hsc : (dstD t e : Memref sig (Dev.tc n : Thread nD τ).2.kind .vmem (TV t) .bf16).view.ref.isScScratch = false}
    {hsrc : (srcD t e).view.WordExact} {hdst : (dstD t e).view.WordExact}
    {hsem : DmaTarget.Typed .vmem (.dma qr) (.remote (Dev.tc n : Thread nD τ) (dstD t e : Memref sig .tc .vmem (TV t) .bf16) (.dma qs) hsc)}
    {k : PUnit → Prog (TpuEff nD τ sig (Elt F) Λ₀ .tc) α} (hk : St m c K R (Function.update σ (t, e) .flying) r o ⊢ WP c (k ⟨⟩) Q) :
    St m c K R σ r o ⊢ WP c (.op (.load (xbM) (Rect.unit (s := S2048x256) off S256x256.size h).toLoadRect h1) fun a =>
      .op (.load (wbM) (crect t).toLoadRect h2) fun b =>
      .op (.load (srcB t e) (rect t e).toLoadRect h3) fun _ =>
      .op (.store (srcB t e) (rect t e) (p a b) Finset.univ hx hm) fun _ =>
      .op (.enqueueDma (srcD t e) (.remote (Dev.tc n : Thread nD τ) (dstD t e) (.dma qs) hsc) (.dma qr) hsrc hdst hsem) k) Q :=
  st_ldx m c K R (st_ldw m c K R t (st_lds_junk m c K R t e hσ fun _ => st_sts_full m c K R t e (.inl hσ) (hp.trans hs)
    (st_send m c K R t e (Function.update_self _ _ _) hn hqs hqr (by rw [Function.update_idem]; exact hk))))

/-- The landing of exchange `f` is waited for, added to the send slot of exchange `e`, and the sum is issued. -/
theorem blk_add (f : Fin 7) (hσ : σ (t, e) = .part) (hr : r (t, f) = false) (hlev : ∀ k, (σ k).pending = true → klv f < klv k.2)
    {p : Vec F (TV t) .bf16 → Vec F (TV t) .bf16 → Vec F (TV t) .bf16} (hp : p (part m c t e) (landed m c t f) = sent m c t e)
    {q1 : DmaSem sig} (hq1 : q1 = recvQ t f) {sp1 sp1' : Space} {s1 s1' : Shape} {el1 el1' : EltTy} {a1 : Memref sig .tc sp1 s1 el1} {b1 : Memref sig .tc sp1' s1' el1'}
    (hN1 : b1.view.dmaCredit = N t f) {ha1 : a1.view.WordExact} {hb1 : b1.view.WordExact}
    {h1 : (srcB t e).view.LoadsAt (rect t e).toLoadRect} {h2 : (dstB t f).view.LoadsAt (rect t f).toLoadRect} {h3 : (srcB t e).view.LoadsAt (rect t e).toLoadRect}
    {hx : ((srcB t e).access (rect t e) : View sig .tc _ _ _).Stores Finset.univ} {hm : (Finset.univ : Finset (rect t e).shape.Idx) = Finset.univ ∨ ∀ a, (rect t e).stride a = 1}
    {n : Dev nD} (hn : n = peer t e c) {qs qr : DmaSem sig} (hqs : qs = sendQ t e) (hqr : qr = recvQ t e)
    {hsc : (dstD t e : Memref sig (Dev.tc n : Thread nD τ).2.kind .vmem (TV t) .bf16).view.ref.isScScratch = false}
    {hsrc : (srcD t e).view.WordExact} {hdst : (dstD t e).view.WordExact}
    {hsem : DmaTarget.Typed .vmem (.dma qr) (.remote (Dev.tc n : Thread nD τ) (dstD t e : Memref sig .tc .vmem (TV t) .bf16) (.dma qs) hsc)}
    {k : PUnit → Prog (TpuEff nD τ sig (Elt F) Λ₀ .tc) α} (hk : St m c K R (Function.update σ (t, e) .flying) (Function.update r (t, f) true) o ⊢ WP c (k ⟨⟩) Q) :
    St m c K R σ r o ⊢ WP c (.op (.waitDma2 q1 a1 b1 ha1 hb1) fun _ =>
      .op (.load (srcB t e) (rect t e).toLoadRect h1) fun a =>
      .op (.load (dstB t f) (rect t f).toLoadRect h2) fun b =>
      .op (.load (srcB t e) (rect t e).toLoadRect h3) fun _ =>
      .op (.store (srcB t e) (rect t e) (p a b) Finset.univ hx hm) fun _ =>
      .op (.enqueueDma (srcD t e) (.remote (Dev.tc n : Thread nD τ) (dstD t e) (.dma qs) hsc) (.dma qr) hsrc hdst hsem) k) Q :=
  st_recv m c K R t f hr hlev hq1 hN1 (st_lds_part m c K R t e hσ (st_ldr m c K R t f (Function.update_self _ _ _)
    (st_lds_part m c K R t e hσ (st_sts_full m c K R t e (.inr hσ) hp
      (st_send m c K R t e (Function.update_self _ _ _) hn hqs hqr (by rw [Function.update_idem]; exact hk))))))

/-- The same of two landings, for the last exchange of a stream. -/
theorem blk_add3 (hσ : σ (t, 6) = .part) (hr : r (t, 2) = false) (hr' : r (t, 4) = false)
    (hlev : ∀ k, (σ k).pending = true → klv 2 < klv k.2)
    (hlev' : ∀ k, (σ k).pending = true → klv 4 < klv k.2)
    {p : Vec F (TV t) .bf16 → Vec F (TV t) .bf16 → Vec F (TV t) .bf16 → Vec F (TV t) .bf16}
    (hp : p (part m c t 6) (landed m c t 2) (landed m c t 4) = sent m c t 6)
    {q1 : DmaSem sig} (hq1 : q1 = recvQ t 2) {sp1 sp1' : Space} {s1 s1' : Shape} {el1 el1' : EltTy} {a1 : Memref sig .tc sp1 s1 el1} {b1 : Memref sig .tc sp1' s1' el1'}
    (hN1 : b1.view.dmaCredit = N t 2) {ha1 : a1.view.WordExact} {hb1 : b1.view.WordExact}
    {q2 : DmaSem sig} (hq2 : q2 = recvQ t 4) {sp2 sp2' : Space} {s2 s2' : Shape} {el2 el2' : EltTy} {a2 : Memref sig .tc sp2 s2 el2} {b2 : Memref sig .tc sp2' s2' el2'}
    (hN2 : b2.view.dmaCredit = N t 4) {ha2 : a2.view.WordExact} {hb2 : b2.view.WordExact}
    {h1 : (srcB t 6).view.LoadsAt (rect t 6).toLoadRect} {h2 : (dstB t 2).view.LoadsAt (rect t 2).toLoadRect}
    {h3 : (dstB t 4).view.LoadsAt (rect t 4).toLoadRect} {h4 : (srcB t 6).view.LoadsAt (rect t 6).toLoadRect}
    {hx : ((srcB t 6).access (rect t 6) : View sig .tc _ _ _).Stores Finset.univ} {hm : (Finset.univ : Finset (rect t 6).shape.Idx) = Finset.univ ∨ ∀ a, (rect t 6).stride a = 1}
    {n : Dev nD} (hn : n = peer t 6 c) {qs qr : DmaSem sig} (hqs : qs = sendQ t 6) (hqr : qr = recvQ t 6)
    {hsc : (dstD t 6 : Memref sig (Dev.tc n : Thread nD τ).2.kind .vmem (TV t) .bf16).view.ref.isScScratch = false}
    {hsrc : (srcD t 6).view.WordExact} {hdst : (dstD t 6).view.WordExact}
    {hsem : DmaTarget.Typed .vmem (.dma qr) (.remote (Dev.tc n : Thread nD τ) (dstD t 6 : Memref sig .tc .vmem (TV t) .bf16) (.dma qs) hsc)}
    {k : PUnit → Prog (TpuEff nD τ sig (Elt F) Λ₀ .tc) α} (hk : St m c K R (Function.update σ (t, 6) .flying) (Function.update (Function.update r (t, 2) true) (t, 4) true) o ⊢ WP c (k ⟨⟩) Q) :
    St m c K R σ r o ⊢ WP c (.op (.waitDma2 q1 a1 b1 ha1 hb1) fun _ =>
      .op (.waitDma2 q2 a2 b2 ha2 hb2) fun _ =>
      .op (.load (srcB t 6) (rect t 6).toLoadRect h1) fun a =>
      .op (.load (dstB t 2) (rect t 2).toLoadRect h2) fun b =>
      .op (.load (dstB t 4) (rect t 4).toLoadRect h3) fun d =>
      .op (.load (srcB t 6) (rect t 6).toLoadRect h4) fun _ =>
      .op (.store (srcB t 6) (rect t 6) (p a b d) Finset.univ hx hm) fun _ =>
      .op (.enqueueDma (srcD t 6) (.remote (Dev.tc n : Thread nD τ) (dstD t 6) (.dma qs) hsc) (.dma qr) hsrc hdst hsem) k) Q :=
  st_recv m c K R t 2 hr hlev hq1 hN1 (st_recv m c K R t 4 ((Function.update_of_ne (by simp) _ _).trans hr') hlev' hq2 hN2
    (st_lds_part m c K R t 6 hσ (st_ldr m c K R t 2 ((Function.update_of_ne (by simp) _ _).trans (Function.update_self _ _ _))
    (st_ldr m c K R t 4 (Function.update_self _ _ _)
    (st_lds_part m c K R t 6 hσ (st_sts_full m c K R t 6 (.inr hσ) hp
      (st_send m c K R t 6 (Function.update_self _ _ _) hn hqs hqr (by rw [Function.update_idem]; exact hk))))))))

/-- The last three landings of a stream, and its columns of the result. -/
theorem blk_fin (ho : o t = .part) (hr : r (t, 3) = false) (hr' : r (t, 5) = false) (hr'' : r (t, 6) = false)
    (hlev : ∀ k, (σ k).pending = false)
    {p : Vec F (TV t) .f32 → Vec F (TV t) .bf16 → Vec F (TV t) .bf16 → Vec F (TV t) .bf16 → Vec F (TV t) .f32}
    (hp : p (own0 m c t) (landed m c t 3) (landed m c t 5) (landed m c t 6) = outv m c t)
    {q1 : DmaSem sig} (hq1 : q1 = recvQ t 3) {sp1 sp1' : Space} {s1 s1' : Shape} {el1 el1' : EltTy} {a1 : Memref sig .tc sp1 s1 el1} {b1 : Memref sig .tc sp1' s1' el1'}
    (hN1 : b1.view.dmaCredit = N t 3) {ha1 : a1.view.WordExact} {hb1 : b1.view.WordExact}
    {q2 : DmaSem sig} (hq2 : q2 = recvQ t 5) {sp2 sp2' : Space} {s2 s2' : Shape} {el2 el2' : EltTy} {a2 : Memref sig .tc sp2 s2 el2} {b2 : Memref sig .tc sp2' s2' el2'}
    (hN2 : b2.view.dmaCredit = N t 5) {ha2 : a2.view.WordExact} {hb2 : b2.view.WordExact}
    {q3 : DmaSem sig} (hq3 : q3 = recvQ t 6) {sp3 sp3' : Space} {s3 s3' : Shape} {el3 el3' : EltTy} {a3 : Memref sig .tc sp3 s3 el3} {b3 : Memref sig .tc sp3' s3' el3'}
    (hN3 : b3.view.dmaCredit = N t 6) {ha3 : a3.view.WordExact} {hb3 : b3.view.WordExact}
    {h1 : (oM : Memref sig .tc .vmem S256x2048 .f32).view.LoadsAt (crect t).toLoadRect} {h2 : (dstB t 3).view.LoadsAt (rect t 3).toLoadRect}
    {h3 : (dstB t 5).view.LoadsAt (rect t 5).toLoadRect} {h4 : (dstB t 6).view.LoadsAt (rect t 6).toLoadRect}
    {h5 : (oM : Memref sig .tc .vmem S256x2048 .f32).view.LoadsAt (crect t).toLoadRect}
    {hx : ((oM : Memref sig .tc .vmem S256x2048 .f32).access (crect t) : View sig .tc _ _ _).Stores Finset.univ} {hm : (Finset.univ : Finset (crect t).shape.Idx) = Finset.univ ∨ ∀ a, (crect t).stride a = 1}
    {k : PUnit → Prog (TpuEff nD τ sig (Elt F) Λ₀ .tc) α} (hk : St m c K R σ (Function.update (Function.update (Function.update r (t, 3) true) (t, 5) true) (t, 6) true) (Function.update o t .done) ⊢ WP c (k ⟨⟩) Q) :
    St m c K R σ r o ⊢ WP c (.op (.waitDma2 q1 a1 b1 ha1 hb1) fun _ =>
      .op (.waitDma2 q2 a2 b2 ha2 hb2) fun _ =>
      .op (.waitDma2 q3 a3 b3 ha3 hb3) fun _ =>
      .op (.load (oM) (crect t).toLoadRect h1) fun a =>
      .op (.load (dstB t 3) (rect t 3).toLoadRect h2) fun b =>
      .op (.load (dstB t 5) (rect t 5).toLoadRect h3) fun d =>
      .op (.load (dstB t 6) (rect t 6).toLoadRect h4) fun e =>
      .op (.load (oM) (crect t).toLoadRect h5) fun _ =>
      .op (.store (oM) (crect t) (p a b d e) Finset.univ hx hm) k) Q :=
  have hl (f : Fin 7) : ∀ k, (σ k).pending = true → klv f < klv k.2 := fun k h => absurd ((hlev k).symm.trans h) Bool.false_ne_true
  st_recv m c K R t 3 hr (hl 3) hq1 hN1 (st_recv m c K R t 5 ((Function.update_of_ne (by simp) _ _).trans hr') (hl 5) hq2 hN2
    (st_recv m c K R t 6 ((Function.update_of_ne (by simp) _ _).trans ((Function.update_of_ne (by simp) _ _).trans hr'')) (hl 6) hq3 hN3
    (st_ldo_part m c K R t ho
    (st_ldr m c K R t 3 ((Function.update_of_ne (by simp) _ _).trans ((Function.update_of_ne (by simp) _ _).trans (Function.update_self _ _ _)))
    (st_ldr m c K R t 5 ((Function.update_of_ne (by simp) _ _).trans (Function.update_self _ _ _))
    (st_ldr m c K R t 6 (Function.update_self _ _ _)
    (st_ldo_part m c K R t ho (st_sto_done m c K R t ho hp hk))))))))

/-- The sends of a stream are waited for. -/
theorem blk_sent (hσ : ∀ e, σ (t, e) = .flying) (hlev : ∀ k, (σ k).pending = false)
    {q0 : DmaSem sig} (hq0 : q0 = sendQ t 0) {sp0 sp0' : Space} {s0 s0' : Shape} {el0 el0' : EltTy} {a0 : Memref sig .tc sp0 s0 el0} {b0 : Memref sig .tc sp0' s0' el0'}
    (hN0 : b0.view.dmaCredit = N t 0) {ha0 : a0.view.WordExact} {hb0 : b0.view.WordExact}
    {q1 : DmaSem sig} (hq1 : q1 = sendQ t 1) {sp1 sp1' : Space} {s1 s1' : Shape} {el1 el1' : EltTy} {a1 : Memref sig .tc sp1 s1 el1} {b1 : Memref sig .tc sp1' s1' el1'}
    (hN1 : b1.view.dmaCredit = N t 1) {ha1 : a1.view.WordExact} {hb1 : b1.view.WordExact}
    {q2 : DmaSem sig} (hq2 : q2 = sendQ t 2) {sp2 sp2' : Space} {s2 s2' : Shape} {el2 el2' : EltTy} {a2 : Memref sig .tc sp2 s2 el2} {b2 : Memref sig .tc sp2' s2' el2'}
    (hN2 : b2.view.dmaCredit = N t 2) {ha2 : a2.view.WordExact} {hb2 : b2.view.WordExact}
    {q3 : DmaSem sig} (hq3 : q3 = sendQ t 3) {sp3 sp3' : Space} {s3 s3' : Shape} {el3 el3' : EltTy} {a3 : Memref sig .tc sp3 s3 el3} {b3 : Memref sig .tc sp3' s3' el3'}
    (hN3 : b3.view.dmaCredit = N t 3) {ha3 : a3.view.WordExact} {hb3 : b3.view.WordExact}
    {q4 : DmaSem sig} (hq4 : q4 = sendQ t 4) {sp4 sp4' : Space} {s4 s4' : Shape} {el4 el4' : EltTy} {a4 : Memref sig .tc sp4 s4 el4} {b4 : Memref sig .tc sp4' s4' el4'}
    (hN4 : b4.view.dmaCredit = N t 4) {ha4 : a4.view.WordExact} {hb4 : b4.view.WordExact}
    {q5 : DmaSem sig} (hq5 : q5 = sendQ t 5) {sp5 sp5' : Space} {s5 s5' : Shape} {el5 el5' : EltTy} {a5 : Memref sig .tc sp5 s5 el5} {b5 : Memref sig .tc sp5' s5' el5'}
    (hN5 : b5.view.dmaCredit = N t 5) {ha5 : a5.view.WordExact} {hb5 : b5.view.WordExact}
    {q6 : DmaSem sig} (hq6 : q6 = sendQ t 6) {sp6 sp6' : Space} {s6 s6' : Shape} {el6 el6' : EltTy} {a6 : Memref sig .tc sp6 s6 el6} {b6 : Memref sig .tc sp6' s6' el6'}
    (hN6 : b6.view.dmaCredit = N t 6) {ha6 : a6.view.WordExact} {hb6 : b6.view.WordExact}
    {k : PUnit → Prog (TpuEff nD τ sig (Elt F) Λ₀ .tc) α} (hk : St m c K R (fun k => if k.1 = t then .done else σ k) r o ⊢ WP c (k ⟨⟩) Q) :
    St m c K R σ r o ⊢ WP c (.op (.waitDma2 q0 a0 b0 ha0 hb0) fun _ =>
      .op (.waitDma2 q1 a1 b1 ha1 hb1) fun _ =>
      .op (.waitDma2 q2 a2 b2 ha2 hb2) fun _ =>
      .op (.waitDma2 q3 a3 b3 ha3 hb3) fun _ =>
      .op (.waitDma2 q4 a4 b4 ha4 hb4) fun _ =>
      .op (.waitDma2 q5 a5 b5 ha5 hb5) fun _ =>
      .op (.waitDma2 q6 a6 b6 ha6 hb6) k) Q := by
  have up (σ : Key → Sl) (e : Fin 7) (h : ∀ k, (σ k).pending = false) : ∀ k, (Function.update σ (t, e) .done k).pending = false := fun k => by
    by_cases hk : k = (t, e)
    · rw [hk, Function.update_self]; rfl
    · rw [Function.update_of_ne hk]; exact h k
  refine st_sentw m c K R t 0 (hσ 0) hlev hq0 hN0 ?_
  refine st_sentw m c K R t 1 (by simp [Function.update_of_ne, hσ]) (up _ 0 hlev) hq1 hN1 ?_
  refine st_sentw m c K R t 2 (by simp [Function.update_of_ne, hσ]) (up _ 1 (up _ 0 hlev)) hq2 hN2 ?_
  refine st_sentw m c K R t 3 (by simp [Function.update_of_ne, hσ]) (up _ 2 (up _ 1 (up _ 0 hlev))) hq3 hN3 ?_
  refine st_sentw m c K R t 4 (by simp [Function.update_of_ne, hσ]) (up _ 3 (up _ 2 (up _ 1 (up _ 0 hlev)))) hq4 hN4 ?_
  refine st_sentw m c K R t 5 (by simp [Function.update_of_ne, hσ]) (up _ 4 (up _ 3 (up _ 2 (up _ 1 (up _ 0 hlev))))) hq5 hN5 ?_
  refine st_sentw m c K R t 6 (by simp [Function.update_of_ne, hσ]) (up _ 5 (up _ 4 (up _ 3 (up _ 2 (up _ 1 (up _ 0 hlev)))))) hq6 hN6 ?_
  refine st_eq m c K R (fun j => ?_) (fun _ => rfl) (fun _ => rfl) hk
  obtain ⟨t', e⟩ := j
  by_cases ht : t' = t
  · subst ht; fin_cases e <;> simp [Function.update_apply]
  · simp [Function.update_apply, ht]

end Block

end Cert.Cube
-- ==== Proof.Body.lean ====
/-
# The body

One device's run: the barrier, the roundings, and the blocks of the exchanges, in the order the body has them.
-/
module

public import proofs.«01_k».proof.Proof.Blocks
public import proofs.«01_k».proof.Proof.Gen.KernelIdeal.Points

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)
variable (c : Dev nD) (K : Dev nD × CIx → ℕ)

theorem dev1 : (⟨k0_dev1 c, k0_dev1_lt c⟩ : Dev nD) = flip 0 c := Fin.ext (by revert c; decide)
theorem dev2 : (⟨k0_dev2 c, k0_dev2_lt c⟩ : Dev nD) = flip 1 c := Fin.ext (by revert c; decide)
theorem dev3 : (⟨k0_dev3 c, k0_dev3_lt c⟩ : Dev nD) = flip 2 c := Fin.ext (by revert c; decide)

/-- The send slots after the first exchanges are issued, when the terms of the second are there, when the second are issued,
    and when the terms of the last are there. -/
def sent0 (k : Key) : Sl := if k.2 < 4 then .flying else .junk
def sent1 (k : Key) : Sl := if k.2 < 4 then .flying else if k.2 < 6 then .part else .junk
def sent2 (k : Key) : Sl := if k.2 < 6 then .flying else .junk
def sent3 (k : Key) : Sl := if k.2 < 6 then .flying else .part

set_option maxHeartbeats 0 in
theorem walk (t : Fin cfg0.N) {Q : PUnit → PR F}
    (hQ : St m c K iprop(has c xM (xstg m c) ∗ has c wM (wstg m c) ∗ semVal (barCell c) 0) (fun _ => .done) (fun _ => true) (fun _ => .done) ⊢ Q ⟨⟩) :
    bodyPre m c K ⊢ WP c (bodyAt0 t) Q := by
  unfold bodyAt0
  rw [cc0_body_eq_skeleton]
  unfold cc0_body_skel
  rw [k0_part67_eq_skeleton]
  unfold k0_part67_skel
  refine st_dev c ?_
  refine pro_signal m c K _ 0 rfl rfl (dev1 c) (by decide) ?_
  refine pro_signal m c K _ 1 rfl rfl (dev2 c) (by decide) ?_
  refine pro_signal m c K _ 2 rfl rfl (dev3 c) (by decide) ?_
  refine pro_wait m c K _ (by decide) ?_
  refine (after_wait m c K).trans (exists_elim fun X => exists_elim fun Y => ?_)
  refine rnd_ldx m c (rnd_ldxb m c (rnd_stx m c (rnd_ldw m c (rnd_ldwb m c (rnd_stw m c ?_)))))
  refine (after_round m c K).trans ?_
  refine blk_send m c K _ 0 0 rfl rfl rfl (Fin.ext (by clear hQ; revert c; decide)) rfl rfl ?_
  refine blk_send m c K _ 1 0 rfl rfl rfl (Fin.ext (by clear hQ; revert c; decide)) rfl rfl ?_
  refine blk_send m c K _ 2 0 rfl rfl rfl (Fin.ext (by clear hQ; revert c; decide)) rfl rfl ?_
  refine blk_send m c K _ 3 0 rfl rfl rfl (Fin.ext (by clear hQ; revert c; decide)) rfl rfl ?_
  refine blk_send m c K _ 4 0 rfl rfl rfl (Fin.ext (by clear hQ; revert c; decide)) rfl rfl ?_
  refine blk_send m c K _ 5 0 rfl rfl rfl (Fin.ext (by clear hQ; revert c; decide)) rfl rfl ?_
  refine blk_send m c K _ 0 1 rfl rfl rfl (Fin.ext (by clear hQ; revert c; decide)) rfl rfl ?_
  refine blk_send m c K _ 1 1 rfl rfl rfl (Fin.ext (by clear hQ; revert c; decide)) rfl rfl ?_
  refine blk_send m c K _ 2 1 rfl rfl rfl (Fin.ext (by clear hQ; revert c; decide)) rfl rfl ?_
  refine blk_send m c K _ 3 1 rfl rfl rfl (Fin.ext (by clear hQ; revert c; decide)) rfl rfl ?_
  refine blk_send m c K _ 4 1 rfl rfl rfl (Fin.ext (by clear hQ; revert c; decide)) rfl rfl ?_
  refine blk_send m c K _ 5 1 rfl rfl rfl (Fin.ext (by clear hQ; revert c; decide)) rfl rfl ?_
  refine blk_send m c K _ 0 2 rfl rfl rfl (Fin.ext (by clear hQ; revert c; decide)) rfl rfl ?_
  refine blk_send m c K _ 1 2 rfl rfl rfl (Fin.ext (by clear hQ; revert c; decide)) rfl rfl ?_
  refine blk_send m c K _ 2 2 rfl rfl rfl (Fin.ext (by clear hQ; revert c; decide)) rfl rfl ?_
  refine blk_send m c K _ 3 2 rfl rfl rfl (Fin.ext (by clear hQ; revert c; decide)) rfl rfl ?_
  refine blk_send m c K _ 4 2 rfl rfl rfl (Fin.ext (by clear hQ; revert c; decide)) rfl rfl ?_
  refine blk_send m c K _ 5 2 rfl rfl rfl (Fin.ext (by clear hQ; revert c; decide)) rfl rfl ?_
  refine blk_send m c K _ 0 3 rfl rfl rfl (Fin.ext (by clear hQ; revert c; decide)) rfl rfl ?_
  refine blk_send m c K _ 1 3 rfl rfl rfl (Fin.ext (by clear hQ; revert c; decide)) rfl rfl ?_
  refine blk_send m c K _ 2 3 rfl rfl rfl (Fin.ext (by clear hQ; revert c; decide)) rfl rfl ?_
  refine blk_send m c K _ 3 3 rfl rfl rfl (Fin.ext (by clear hQ; revert c; decide)) rfl rfl ?_
  refine blk_send m c K _ 4 3 rfl rfl rfl (Fin.ext (by clear hQ; revert c; decide)) rfl rfl ?_
  refine blk_send m c K _ 5 3 rfl rfl rfl (Fin.ext (by clear hQ; revert c; decide)) rfl rfl ?_
  refine st_eq m c K _ (σ' := sent0) (r' := fun _ => false) (o' := fun _ => .junk) (by decide +kernel) (fun _ => rfl) (fun _ => rfl) ?_
  refine blk_part m c K _ 0 4 rfl rfl ?_
  refine blk_part m c K _ 0 5 rfl rfl ?_
  refine blk_part m c K _ 1 4 rfl rfl ?_
  refine blk_part m c K _ 1 5 rfl rfl ?_
  refine blk_part m c K _ 2 4 rfl rfl ?_
  refine blk_part m c K _ 2 5 rfl rfl ?_
  refine blk_part m c K _ 3 4 rfl rfl ?_
  refine blk_part m c K _ 3 5 rfl rfl ?_
  refine blk_part m c K _ 4 4 rfl rfl ?_
  refine blk_part m c K _ 4 5 rfl rfl ?_
  refine blk_part m c K _ 5 4 rfl rfl ?_
  refine blk_part m c K _ 5 5 rfl rfl ?_
  refine st_eq m c K _ (σ' := sent1) (r' := fun _ => false) (o' := fun _ => .junk) (by decide +kernel) (fun _ => rfl) (fun _ => rfl) ?_
  refine blk_add m c K _ 0 4 0 rfl rfl (by decide +kernel) rfl rfl rfl (Fin.ext (by clear hQ; revert c; decide)) rfl rfl ?_
  refine blk_add m c K _ 1 4 0 rfl rfl (by decide +kernel) rfl rfl rfl (Fin.ext (by clear hQ; revert c; decide)) rfl rfl ?_
  refine blk_add m c K _ 2 4 0 rfl rfl (by decide +kernel) rfl rfl rfl (Fin.ext (by clear hQ; revert c; decide)) rfl rfl ?_
  refine blk_add m c K _ 3 4 0 rfl rfl (by decide +kernel) rfl rfl rfl (Fin.ext (by clear hQ; revert c; decide)) rfl rfl ?_
  refine blk_add m c K _ 4 4 0 rfl rfl (by decide +kernel) rfl rfl rfl (Fin.ext (by clear hQ; revert c; decide)) rfl rfl ?_
  refine blk_add m c K _ 5 4 0 rfl rfl (by decide +kernel) rfl rfl rfl (Fin.ext (by clear hQ; revert c; decide)) rfl rfl ?_
  refine blk_add m c K _ 0 5 1 rfl rfl (by decide +kernel) rfl rfl rfl (Fin.ext (by clear hQ; revert c; decide)) rfl rfl ?_
  refine blk_add m c K _ 1 5 1 rfl rfl (by decide +kernel) rfl rfl rfl (Fin.ext (by clear hQ; revert c; decide)) rfl rfl ?_
  refine blk_add m c K _ 2 5 1 rfl rfl (by decide +kernel) rfl rfl rfl (Fin.ext (by clear hQ; revert c; decide)) rfl rfl ?_
  refine blk_add m c K _ 3 5 1 rfl rfl (by decide +kernel) rfl rfl rfl (Fin.ext (by clear hQ; revert c; decide)) rfl rfl ?_
  refine blk_add m c K _ 4 5 1 rfl rfl (by decide +kernel) rfl rfl rfl (Fin.ext (by clear hQ; revert c; decide)) rfl rfl ?_
  refine blk_add m c K _ 5 5 1 rfl rfl (by decide +kernel) rfl rfl rfl (Fin.ext (by clear hQ; revert c; decide)) rfl rfl ?_
  refine st_eq m c K _ (σ' := sent2) (r' := fun k => k.2 < 2) (o' := fun _ => .junk) (by decide +kernel) (by decide +kernel) (fun _ => rfl) ?_
  refine blk_part m c K _ 0 6 rfl rfl ?_
  refine blk_own m c K _ 0 rfl rfl ?_
  refine blk_part m c K _ 1 6 rfl rfl ?_
  refine blk_own m c K _ 1 rfl rfl ?_
  refine blk_part m c K _ 2 6 rfl rfl ?_
  refine blk_own m c K _ 2 rfl rfl ?_
  refine blk_part m c K _ 3 6 rfl rfl ?_
  refine blk_own m c K _ 3 rfl rfl ?_
  refine blk_part m c K _ 4 6 rfl rfl ?_
  refine blk_own m c K _ 4 rfl rfl ?_
  refine blk_part m c K _ 5 6 rfl rfl ?_
  refine blk_own m c K _ 5 rfl rfl ?_
  refine st_eq m c K _ (σ' := sent3) (r' := fun k => k.2 < 2) (o' := fun _ => .part) (by decide +kernel) (by decide +kernel) (by decide +kernel) ?_
  refine blk_add3 m c K _ 0 rfl rfl rfl (by decide +kernel) (by decide +kernel) rfl rfl rfl rfl rfl (Fin.ext (by clear hQ; revert c; decide)) rfl rfl ?_
  refine blk_add3 m c K _ 1 rfl rfl rfl (by decide +kernel) (by decide +kernel) rfl rfl rfl rfl rfl (Fin.ext (by clear hQ; revert c; decide)) rfl rfl ?_
  refine blk_add3 m c K _ 2 rfl rfl rfl (by decide +kernel) (by decide +kernel) rfl rfl rfl rfl rfl (Fin.ext (by clear hQ; revert c; decide)) rfl rfl ?_
  refine blk_add3 m c K _ 3 rfl rfl rfl (by decide +kernel) (by decide +kernel) rfl rfl rfl rfl rfl (Fin.ext (by clear hQ; revert c; decide)) rfl rfl ?_
  refine blk_add3 m c K _ 4 rfl rfl rfl (by decide +kernel) (by decide +kernel) rfl rfl rfl rfl rfl (Fin.ext (by clear hQ; revert c; decide)) rfl rfl ?_
  refine blk_add3 m c K _ 5 rfl rfl rfl (by decide +kernel) (by decide +kernel) rfl rfl rfl rfl rfl (Fin.ext (by clear hQ; revert c; decide)) rfl rfl ?_
  refine st_eq m c K _ (σ' := fun _ => .flying) (r' := fun k => k.2 < 3 ∨ k.2 = 4) (o' := fun _ => .part) (by decide +kernel) (by decide +kernel) (fun _ => rfl) ?_
  refine blk_fin m c K _ 0 rfl rfl rfl rfl (fun _ => rfl) rfl rfl rfl rfl rfl rfl rfl ?_
  refine blk_fin m c K _ 1 rfl rfl rfl rfl (fun _ => rfl) rfl rfl rfl rfl rfl rfl rfl ?_
  refine blk_fin m c K _ 2 rfl rfl rfl rfl (fun _ => rfl) rfl rfl rfl rfl rfl rfl rfl ?_
  refine blk_fin m c K _ 3 rfl rfl rfl rfl (fun _ => rfl) rfl rfl rfl rfl rfl rfl rfl ?_
  refine blk_fin m c K _ 4 rfl rfl rfl rfl (fun _ => rfl) rfl rfl rfl rfl rfl rfl rfl ?_
  refine blk_fin m c K _ 5 rfl rfl rfl rfl (fun _ => rfl) rfl rfl rfl rfl rfl rfl rfl ?_
  refine st_eq m c K _ (σ' := fun _ => .flying) (r' := fun _ => true) (o' := fun _ => .done) (fun _ => rfl) (by decide +kernel) (by decide +kernel) ?_
  refine blk_sent m c K _ 0 (by decide +kernel) (by decide +kernel) rfl (N_src _ 0) rfl (N_src _ 1) rfl (N_src _ 2) rfl (N_src _ 3) rfl (N_src _ 4) rfl (N_src _ 5) rfl (N_src _ 6) ?_
  refine blk_sent m c K _ 1 (by decide +kernel) (by decide +kernel) rfl (N_src _ 0) rfl (N_src _ 1) rfl (N_src _ 2) rfl (N_src _ 3) rfl (N_src _ 4) rfl (N_src _ 5) rfl (N_src _ 6) ?_
  refine blk_sent m c K _ 2 (by decide +kernel) (by decide +kernel) rfl (N_src _ 0) rfl (N_src _ 1) rfl (N_src _ 2) rfl (N_src _ 3) rfl (N_src _ 4) rfl (N_src _ 5) rfl (N_src _ 6) ?_
  refine blk_sent m c K _ 3 (by decide +kernel) (by decide +kernel) rfl (N_src _ 0) rfl (N_src _ 1) rfl (N_src _ 2) rfl (N_src _ 3) rfl (N_src _ 4) rfl (N_src _ 5) rfl (N_src _ 6) ?_
  refine blk_sent m c K _ 4 (by decide +kernel) (by decide +kernel) rfl (N_src _ 0) rfl (N_src _ 1) rfl (N_src _ 2) rfl (N_src _ 3) rfl (N_src _ 4) rfl (N_src _ 5) rfl (N_src _ 6) ?_
  refine blk_sent m c K _ 5 (by decide +kernel) (by decide +kernel) rfl (N_src _ 0) rfl (N_src _ 1) rfl (N_src _ 2) rfl (N_src _ 3) rfl (N_src _ 4) rfl (N_src _ 5) rfl (N_src _ 6) ?_
  refine st_eq m c K _ (σ' := fun _ => .done) (r' := fun _ => true) (o' := fun _ => .done) (by decide +kernel) (fun _ => rfl) (fun _ => rfl) ?_
  exact st_ret c hQ

end Cert.Cube
-- ==== Proof.Ghost.lean ====
/-
# What the launch deals

The cells' invariants are allocated on all devices at once, and the duty tokens, minted with their cells, go to the
devices that pay them: a barrier cell's to the device's three neighbours, a receive cell's to its peer.
-/
module

public import proofs.«01_k».proof.Proof.Prologue

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells -/

omit [FloatOps F] in
theorem by_cix (Φ : CIx → sProp 𝕄) : bigSep Finset.univ Φ = iprop(Φ none ∗ bigSep Finset.univ fun x => Φ (some x)) := by
  rw [bigSep_univ_at _ none, show (Finset.univ : Finset CIx).erase none = Finset.univ.map Function.Embedding.some from by
    ext x; cases x <;> simp, bigSep_map]
  rfl
omit [FloatOps F] in
theorem by_side (Φ : Bool × Key → sProp 𝕄) :
    bigSep Finset.univ Φ = iprop((bigSep Finset.univ fun k => Φ (false, k)) ∗ bigSep Finset.univ fun k => Φ (true, k)) := by
  rw [bigSep_univ_prod]
  exact bigSep_univ_eq_bigSepL [false, true] (by decide) (by decide) _

theorem csem_injective : Function.Injective csem := by
  have hl : Function.LeftInverse (fun s : SemLoc sig => match s with | .reg _ => none | .dma q => keyOf q) csem := fun ci => by
    rcases ci with _ | ⟨b, k⟩
    · rfl
    · cases b
      · exact keyOf_send k.1 k.2
      · exact keyOf_recv k.1 k.2
  exact hl.injective
theorem kcell_injective : Function.Injective kcell := by
  rintro ⟨c, ci⟩ ⟨c', ci'⟩ h
  have h1 : c = c' := congrArg (fun g : GSem nD τ sig => g.1.1) h
  have h2 : ci = ci' := csem_injective (congrArg Prod.snd h)
  rw [h1, h2]
def cubeCells : Finset (GSem nD τ sig) := Finset.univ.map ⟨kcell, kcell_injective⟩

/-! ## The duty tokens -/

/-- A device's duties at its own cells: its barrier's three, one at each other. -/
abbrev Tk : Type := Fin 3 ⊕ Bool × Key
def tokOf : Dev nD × Tk → GSem nD τ sig × ℕ × Fin 3
  | (c, .inl d) => (barCell c, 0, d)
  | (c, .inr x) => (kcell (c, some x), 0, 0)
theorem tokOf_injective : Function.Injective tokOf := by
  rintro ⟨c, x⟩ ⟨c', x'⟩ h
  have hc (ci ci' : CIx) (h : kcell (c, ci) = kcell (c', ci')) : c = c' ∧ ci = ci' := by
    have := kcell_injective h; exact ⟨congrArg Prod.fst this, congrArg Prod.snd this⟩
  rcases x with d | x <;> rcases x' with d' | x'
  · have h1 := hc none none (congrArg Prod.fst h)
    have h2 : d = d' := congrArg (fun z : GSem nD τ sig × ℕ × Fin 3 => z.2.2) h
    rw [h1.1, h2]
  · exact absurd (hc none (some x') (congrArg Prod.fst h)).2 (by simp)
  · exact absurd (hc (some x) none (congrArg Prod.fst h)).2 (by simp)
  · have h1 := hc (some x) (some x') (congrArg Prod.fst h)
    rw [h1.1, Option.some.inj h1.2]
def cubeToks : Finset (GSem nD τ sig × ℕ × Fin 3) := Finset.univ.map ⟨tokOf, tokOf_injective⟩

/-- The token device `c` pays under the name `x` is that of a cell of this device, under the same name. -/
def around : Dev nD × Tk → Dev nD × Tk
  | (c, .inl d) => (flip d c, .inl d)
  | (c, .inr (false, k)) => (c, .inr (false, k))
  | (c, .inr (true, k)) => (peer k.1 k.2 c, .inr (true, k))
theorem around_around : Function.Involutive around := by
  rintro ⟨c, d | ⟨b, k⟩⟩
  · show (flip d (flip d c), Sum.inl d) = (c, (Sum.inl d : Tk)); rw [flip_flip]
  · cases b
    · rfl
    · show (peer k.1 k.2 (peer k.1 k.2 c), Sum.inr (true, k)) = (c, (Sum.inr (true, k) : Tk)); rw [peer_peer]

def tok (x : Dev nD × Tk) : PR F := dutyTok ER (tokOf x).1 (tokOf x).2.1 (tokOf x).2.2
def toks (c : Dev nD) : PR F := bigSep Finset.univ fun x : Tk => tok (c, x)
def payToks (c : Dev nD) : PR F := bigSep Finset.univ fun x : Tk => tok (around (c, x))

omit [FloatOps F] in
theorem toks_around : (bigSep Finset.univ fun c : Dev nD => toks (F := F) c) = bigSep Finset.univ fun c => payToks c := by
  unfold toks payToks
  rw [← bigSep_univ_prod fun cx : Dev nD × Tk => tok (F := F) cx, bigSep_univ_equiv around_around.toPerm, bigSep_univ_prod]
  rfl

omit [FloatOps F] in
theorem payToks_eq (c : Dev nD) : payToks (F := F) c = iprop((bigSep Finset.univ fun d : Fin 3 => dutyTok ER (barCell (flip d c)) 0 d)
    ∗ (bigSep Finset.univ fun k : Key => dutyTok ER (sendCell k.1 k.2 c) 0 0)
    ∗ bigSep Finset.univ fun k : Key => dutyTok ER (recvCell k.1 k.2 (peer k.1 k.2 c)) 0 0) := by
  unfold payToks
  rw [bigSep_univ_sum, by_side]
  rfl

/-! ## The launch element, and the global step -/

def u₀ : UU :=
  (initOf (Pipeline.cells cfgs cellOf_inj) (Pipeline.launchToks cfgs cellOf_inj), initOf cubeCells cubeToks)

/-- What the launch element deals device `c`. -/
def G (c : Dev nD) : PR F :=
  iprop((bigSep Finset.univ fun ci : CIx => roundState ER (rd m) (kcell (c, ci)) 0)
    ∗ (bigSep Finset.univ fun ci : CIx => iprop(atPos ER (kcell (c, ci)) 0 ∅ 0 ∗ reached ER (kcell (c, ci)) 0)) ∗ toks c)
/-- What the global step makes of it. -/
def ghost (K : Dev nD × CIx → ℕ) (c : Dev nD) : PR F :=
  iprop(recs m K ∗ (bigSep Finset.univ fun ci : CIx => atPos ER (kcell (c, ci)) 0 ∅ 0) ∗ payToks c)
def G' (c : Dev nD) : PR F := iprop(∃ K, ghost m K c)

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun ci : CIx => Φ (kcell (c, ci)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]; rfl
  iintro HX
  imod (Rounds.fund ER (rd m) cubeCells cubeToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own DMA semaphores. -/
def osem (x : Bool × Key) : SemLoc sig := csem (some x)
theorem ownSemFacts : Pipeline.OwnSemFacts cfg0.spec osem where
  isScoped := by decide +kernel
  inj := fun x y h => Option.some.inj (csem_injective h)
  disj := by decide +kernel

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0 (c : Dev nD) : iprop(Pipeline.ownSems0 (Ix := Unit) (Name := ℕ) (U := UU) (Lvl := ℕ) (Val := Elt F) (τ := τ) osem c ∗ unscopedSems0 c)
    ⊢ (bigSep Finset.univ fun ci : CIx => semVal (kcell (c, ci)) 0 : sProp 𝕄) := by
  rw [unscopedSems0_eq, by_cix]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ci => iprop(∃ κ : ℕ, cellInv ER (rd m) κ (kcell (c, ci))))
          ∗ (bigSep Finset.univ fun ci => iprop(atPos ER (kcell (c, ci)) 0 ∅ 0 ∗ reached ER (kcell (c, ci)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun ci : CIx => semVal (kcell (c, ci)) 0) ∗ bigSep Finset.univ fun ci : CIx => roundState ER (rd m) (kcell (c, ci)) 0)
      ⊢ (|={Set.univ}=> bigSep Finset.univ fun ci => iprop(∃ κ : ℕ, cellInv ER (rd m) κ (kcell (c, ci))) : sProp 𝕄) from by
        rw [← bigSep_sep']
        exact (bigSep_mono fun ci _ => (Rounds.body_intro ER (rd m) (kcell (c, ci))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun ci => iprop(∃ κ : ℕ, cellInv ER (rd m) κ (kcell (c, ci))))
          ∗ (bigSep Finset.univ fun ci => iprop(atPos ER (kcell (c, ci)) 0 ∅ 0 ∗ reached ER (kcell (c, ci)) 0)) ∗ toks c) : sProp 𝕄)
      ⊢ bigSep Finset.univ (G' m) := by
  rw [bigSep_sep', bigSep_sep', toks_around, ← bigSep_univ_prod (fun ci : Dev nD × CIx => iprop(∃ κ : ℕ, cellInv ER (rd m) κ (kcell ci))),
    bigSep_congr (s := Finset.univ) (fun (c : Dev nD) _ => bigSep_sep' Finset.univ (fun ci : CIx => (atPos ER (kcell (c, ci)) 0 ∅ 0 : sProp 𝕄)) (fun ci => reached ER (kcell (c, ci)) 0)),
    bigSep_sep', ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (rd m) κ (kcell ci) : sProp 𝕄))) $$ HI
  icases HK with ⟨%K, #HI⟩
  have hg (c : Dev nD) : iprop(recs m K ∗ ((bigSep Finset.univ fun ci : CIx => atPos ER (kcell (c, ci)) 0 ∅ 0) ∗ payToks c)) ⊢ G' m c := by
    unfold G' ghost
    iintro H
    iexists K
    iexact H
  iapply (show iprop(recs m K ∗ bigSep Finset.univ fun c : Dev nD => iprop((bigSep Finset.univ fun ci : CIx => atPos ER (kcell (c, ci)) 0 ∅ 0) ∗ payToks c)) ⊢ bigSep Finset.univ (G' m) from
    (sep_mono_left (BI.bigSep_of_persistent Finset.univ (recs m K))).trans (by rw [← bigSep_sep']; exact bigSep_mono fun c _ => hg c))
  isplitr
  · unfold recs; isplitl; · iexact HI
    iexact HR
  · rw [bigSep_sep']
    isplitl [Hat]; · iexact Hat
    iexact Htok

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem owed_bar (d c : Dev nD) : owed d (fun _ => true) (barCell c) () = 0 := by
  by_contra h
  obtain ⟨k, -, hk⟩ := owed_pos (Nat.pos_of_ne_zero h)
  exact absurd (congrArg Prod.snd hk) (by simp)
omit [FloatOps F] in
theorem owed_recv (d c : Dev nD) (k : Key) : owed d (fun _ => true) (recvCell k.1 k.2 c) () = if d = peer k.1 k.2 c then N k.1 k.2 else 0 := by
  have hc (j k : Key) (a b : Dev nD) (h : recvCell j.1 j.2 a = recvCell k.1 k.2 b) : j = k ∧ a = b := by
    have h' := kcell_injective (a₁ := (a, some (true, j))) (a₂ := (b, some (true, k))) h
    have h2 := congrArg Prod.snd h'
    exact ⟨congrArg Prod.snd (Option.some.inj h2), congrArg Prod.fst h'⟩
  unfold owed
  rw [Finset.sum_apply, Finsupp.finset_sum_apply, Finset.sum_eq_single k]
  · rw [if_pos rfl, tallyAt_apply]
    by_cases h : d = peer k.1 k.2 c
    · subst h; rw [if_pos ⟨by rw [peer_peer], rfl⟩, if_pos rfl]
    · rw [if_neg (fun h' => h (by rw [(hc k k _ _ h'.1).2, peer_peer])), if_neg h]
  · intro j _ hj
    rw [if_pos rfl, tallyAt_apply, if_neg fun h' => hj (hc k j _ _ h'.1).1.symm]
  · exact fun h => absurd (Finset.mem_univ k) h

omit [FloatOps F] in
theorem bar_at (d c : Dev nD) (i : Fin 3) : (tallyAt (barCell (flip i d)) () 1 : CellTallies nD τ sig Unit) (barCell c) () = if d = flip i c then 1 else 0 := by
  rw [tallyAt_apply]
  by_cases h : d = flip i c
  · subst h; rw [if_pos ⟨by rw [flip_flip], rfl⟩, if_pos rfl]
  · rw [if_neg (fun h' => h ?_), if_neg h]
    have : c = flip i d := congrArg (fun g : GSem nD τ sig => g.1.1) h'.1
    rw [this, flip_flip]

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => show O₀ d (barCell c) () = ((0 + if d = flip 2 c then 1 else 0) + if d = flip 1 c then 1 else 0) + if d = flip 0 c then 1 else 0 from by
    unfold O₀ O₂ O₁
    rw [Pi.add_apply, Finsupp.add_apply, Pi.add_apply, Finsupp.add_apply, Pi.add_apply, Finsupp.add_apply, owed_bar, bar_at, bar_at, bar_at]]
  rw [Finset.sum_add_distrib, Finset.sum_add_distrib, Finset.sum_add_distrib, Finset.sum_ite_eq', Finset.sum_ite_eq', Finset.sum_ite_eq',
    if_pos (Finset.mem_univ _), if_pos (Finset.mem_univ _), if_pos (Finset.mem_univ _), Finset.sum_const_zero]

omit [FloatOps F] in
theorem launch_recv (c : Dev nD) (k : Key) :
    tallyOn (recvCell k.1 k.2 c) (launchCredit (Pipeline.owing O₀) 0 (recvCell k.1 k.2 c)) = (tallyAt (recvCell k.1 k.2 c) () (N k.1 k.2) : CellTallies nD τ sig Unit) := by
  have hb (a : Dev nD) : (tallyAt (barCell a) () 1 : CellTallies nD τ sig Unit) (recvCell k.1 k.2 c) () = 0 := by
    rw [tallyAt_apply, if_neg fun h => absurd (congrArg Prod.snd h.1) (by simp)]
  unfold tallyAt; refine congrArg _ (Finsupp.ext fun u => ?_); cases u
  rw [Pipeline.launchCredit_owing, Finsupp.single_eq_same, Finset.sum_congr rfl fun d _ => show O₀ d (recvCell k.1 k.2 c) () = if d = peer k.1 k.2 c then N k.1 k.2 else 0 from by
    unfold O₀ O₂ O₁
    rw [Pi.add_apply, Finsupp.add_apply, Pi.add_apply, Finsupp.add_apply, Pi.add_apply, Finsupp.add_apply, hb, hb, hb, owed_recv]
    rfl]
  rw [Finset.sum_ite_eq', if_pos (Finset.mem_univ _)]

omit [FloatOps F] in
theorem creds (c : Dev nD) :
    (Pipeline.launchCred O₀ c : sProp 𝕄) ⊢ iprop(cred (tallyAt (barCell c) () 3) ∗ bigSep Finset.univ fun k : Key => cred (tallyAt (recvCell k.1 k.2 c) () (N k.1 k.2))) := by
  unfold Pipeline.launchCred
  rw [bigSep_univ_at _ (SemLoc.reg barS), launch_bar]
  refine sep_mono_right ?_
  let f : Key ↪ SemLoc sig := ⟨fun k => .dma (recvQ k.1 k.2), fun j k h => congrArg Prod.snd (Option.some.inj (csem_injective (a₁ := some (true, j)) (a₂ := some (true, k)) h))⟩
  refine (bigSep_subset (t := Finset.univ.map f) fun s hs => ?_).trans ?_
  · obtain ⟨k, -, rfl⟩ := Finset.mem_map.mp hs
    exact Finset.mem_erase.mpr ⟨(fun h => by cases h), Finset.mem_univ _⟩
  · rw [bigSep_map]
    exact bigSep_mono fun k _ => Entails.of_eq (congrArg (fun x => (cred x : sProp 𝕄)) (launch_recv c k))

end Cert.Cube
-- ==== Proof.Launch.lean ====
/-
# The run

The run of the eight kernels from any memory with zero counters: it terminates, each device's result array ends at its
block, its factors end unchanged, and every semaphore counter ends at zero.
-/
module

public import proofs.«01_k».proof.Proof.Body
public import proofs.«01_k».proof.Proof.Ghost
public import proofs.«01_k».proof.Proof.Buffers
public import proofs.«01_k».proof.Proof.Gen.KernelIdeal.Points
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig Unit (Elt F) ℕ UU ℕ

variable (m : (ℓ : Loc nD τ sig) → Buf (Elt F) ℓ) (ρ : Dev nD → PrngReg)

/-! ## The proof data of the one point -/

/-- What the launch hands device `c`. -/
def start (c : Dev nD) : PR F :=
  iprop(G' m c ∗ cred (tallyAt (barCell c) () 3) ∗ (bigSep Finset.univ fun k : Key => cred (tallyAt (recvCell k.1 k.2 c) () (N k.1 k.2))) ∗ levAts L lv)
def Φ₀ (c : Dev nD) : PR F := iprop(start m c ∗ scratch c)
/-- After the body: the scratch buffers, and every semaphore at zero. -/
def Φ₁ (c : Dev nD) : PR F :=
  iprop(scratch (F := F) c ∗ ((bigSep Finset.univ fun k : Key => semVal (sendCell k.1 k.2 c) 0) ∗ bigSep Finset.univ fun k : Key => semVal (recvCell k.1 k.2 c) 0)
    ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem before_0 (c : Dev nD) (d) : (dats m 0 c).before (0 : Fin 3) t0_0 d = xstg m c := by
  unfold Dat.before; rw [if_pos (fetch0_0 t0_0)]; rfl
theorem before_1 (c : Dev nD) (d) : (dats m 0 c).before (1 : Fin 3) t0_0 d = wstg m c := by
  unfold Dat.before; rw [if_pos (fetch0_1 t0_0)]; rfl

/-! ## Into the body -/

theorem outbox_in (c : Dev nD) : iprop(srcs (F := F) c ∗ (bigSep Finset.univ fun k : Key => dutyTok ER (sendCell k.1 k.2 c) 0 0)
      ∗ (bigSep Finset.univ fun k : Key => dutyTok ER (recvCell k.1 k.2 (peer k.1 k.2 c)) 0 0) ∗ bigSep Finset.univ fun k : Key => atPos ER (sendCell k.1 k.2 c) 0 ∅ 0)
    ⊢ outbox (F := F) c := by
  unfold srcs outbox
  simp only [bigSep_sep']
  exact BI.Entails.refl _
theorem inbox_in (c : Dev nD) : iprop((bigSep Finset.univ fun k : Key => cred (tallyAt (recvCell k.1 k.2 c) () (N k.1 k.2)))
      ∗ bigSep Finset.univ fun k : Key => atPos ER (recvCell k.1 k.2 c) 0 ∅ 0) ⊢ inbox m c := by
  unfold inbox dstSt
  simp only [bigSep_sep']
  exact BI.Entails.refl _
theorem signals_in (c : Dev nD) : iprop((bigSep Finset.univ fun d : Fin 3 => dutyTok ER (barCell (flip d c)) 0 d) ∗ slots c)
    ⊢ (bigSep Finset.univ fun d : Fin 3 => if true then iprop(dutyTok ER (barCell (flip d c)) 0 d ∗ barPay (F := F) (flip d c) d) else iprop(emp) : sProp 𝕄) := by
  rw [slots_out, ← bigSep_sep']
  exact bigSep_mono fun d _ => BI.Entails.refl _
theorem pos_out (c : Dev nD) : (bigSep Finset.univ fun ci : CIx => atPos ER (kcell (c, ci)) 0 ∅ 0 : sProp 𝕄)
    ⊢ iprop(atPos ER (barCell c) 0 ∅ 0 ∗ (bigSep Finset.univ fun k : Key => atPos ER (sendCell k.1 k.2 c) 0 ∅ 0)
      ∗ bigSep Finset.univ fun k : Key => atPos ER (recvCell k.1 k.2 c) 0 ∅ 0) := by
  rw [by_cix, by_side]; exact BI.Entails.refl _

theorem pre_in (c : Dev nD) (K : Dev nD × CIx → ℕ) :
    iprop((ghost m K c ∗ cred (tallyAt (barCell c) () 3) ∗ (bigSep Finset.univ fun k : Key => cred (tallyAt (recvCell k.1 k.2 c) () (N k.1 k.2))) ∗ levAts L lv)
        ∗ scratch c ∗ (∃ W : Waits sig Unit, owes (c : Thread nD τ) (O₀ c) W) ∗ has c xM (xstg m c) ∗ has c wM (wstg m c) ∗ ∃ X, has (F := F) c oM X)
      ⊢ bodyPre m c K := by
  unfold ghost
  rw [payToks_eq]
  iintro ⟨⟨⟨HI, Hat, ⟨HtB, HtS, HtV⟩⟩, HcB, HcV, HL⟩, Hs, HO, Hx, Hw, Ho⟩
  ihave Hat := (pos_out (F := F) c) $$ Hat
  icases Hat with ⟨HpB, HpS, HpV⟩
  ihave Hs := (scratch_out (F := F) c) $$ Hs
  icases Hs with ⟨⟨Hxb, Hwb⟩, Hsrc, Hslot⟩
  ihave Ho := (outs_out m c) $$ Ho
  ihave Hout := (outbox_in (F := F) c) $$ [Hsrc HtS HtV HpS]
  · isplitl [Hsrc]; · iexact Hsrc
    isplitl [HtS]; · iexact HtS
    isplitl [HtV] <;> iassumption
  ihave Hin := (inbox_in m c) $$ [HcV HpV]
  · isplitl [HcV] <;> iassumption
  ihave Hsig := (signals_in (F := F) c) $$ [HtB Hslot]
  · isplitl [HtB] <;> iassumption
  unfold bodyPre Pro
  isplitl [Hxb Hwb Hout Hin Ho Hx Hw]
  · isplitl [Hx]; · iexact Hx
    isplitl [Hw]; · iexact Hw
    isplitl [Hxb]; · iexact Hxb
    isplitl [Hwb]; · iexact Hwb
    isplitl [Hout]; · iexact Hout
    isplitl [Hin] <;> iassumption
  isplitl [HI]; · iexact HI
  isplitl [HL]; · iexact HL
  isplitl [HO]; · iexact HO
  isplitl [HcB]; · iexact HcB
  isplitl [HpB]; · iexact HpB
  iexact Hsig

/-! ## Out of the body -/

theorem srcs_back (c : Dev nD) : (bigSep Finset.univ fun k => srcSt m c k .done)
    ⊢ iprop(srcs (F := F) c ∗ bigSep Finset.univ fun k : Key => semVal (sendCell k.1 k.2 c) 0) := by
  have h (k : Key) : srcSt m c k .done ⊢ iprop((∃ X, has (F := F) c (srcM k.1 k.2) X) ∗ semVal (sendCell k.1 k.2 c) 0) := by
    unfold srcSt
    iintro ⟨H, HV⟩
    isplitl [H]
    · iexists (sent m c k.1 k.2); iexact H
    iexact HV
  unfold srcs
  rw [← bigSep_sep']
  exact bigSep_mono fun k _ => h k
theorem slots_back (c : Dev nD) : (bigSep Finset.univ fun k => dstSt m c k true)
    ⊢ iprop(slots (F := F) c ∗ bigSep Finset.univ fun k : Key => semVal (recvCell k.1 k.2 c) 0) := by
  have h (k : Key) : dstSt m c k true ⊢ iprop((∃ X, has (F := F) c (dstM k.1 k.2) X) ∗ semVal (recvCell k.1 k.2 c) 0) := by
    unfold dstSt
    iintro ⟨H, HV⟩
    isplitl [H]
    · iexists (landed m c k.1 k.2); iexact H
    iexact HV
  unfold slots
  rw [← bigSep_sep']
  exact bigSep_mono fun k _ => h k

theorem post_out (c : Dev nD) (K : Dev nD × CIx → ℕ) :
    St m c K iprop(has c xM (xstg m c) ∗ has c wM (wstg m c) ∗ semVal (barCell c) 0) (fun _ => .done) (fun _ => true) (fun _ => .done)
      ⊢ iprop(Φ₁ c ∗ (∃ W : Waits sig Unit, owes (c : Thread nD τ) 0 W) ∗ has c xM (xstg m c) ∗ has c wM (wstg m c) ∗ has c oM (outAt m c)) := by
  unfold St Φ₁
  rw [owed_none c (p := fun k : Key => ((fun _ : Key => Sl.done) k).pending) fun _ => rfl]
  iintro ⟨⟨Hx, Hw, HB⟩, -, -, HO, Hxb, Hwb, Hs, Hd, Ho⟩
  ihave Hs := (srcs_back m c) $$ Hs
  icases Hs with ⟨Hs, HS⟩
  ihave Hd := (slots_back m c) $$ Hd
  icases Hd with ⟨Hd, HV⟩
  ihave Ho := (outs_in m c) $$ Ho
  isplitl [Hxb Hwb Hs HS Hd HV HB]
  · isplitl [Hxb Hwb Hs Hd]
    · iapply (scratch_in (F := F) c)
      isplitl [Hxb Hwb]
      · isplitl [Hxb]
        · iexists (xb m c); iexact Hxb
        iexists (wb m c); iexact Hwb
      isplitl [Hs] <;> iassumption
    isplitl [HS HV]
    · isplitl [HS] <;> iassumption
    iexact HB
  isplitl [HO]; · iexact HO
  isplitl [Hx]; · iexact Hx
  isplitl [Hw] <;> iassumption

/-! ## The body's obligation -/

def bodyPre' (c : Dev nD) : PR F :=
  iprop(Φ₀ m c ∗ (dats m 0 c).owesAt () t0_0.castSucc
    ∗ (∃ d, has c xM ((dats m 0 c).before (0 : Fin 3) t0_0 d))
    ∗ (∃ d, has c wM ((dats m 0 c).before (1 : Fin 3) t0_0 d))
    ∗ (∃ d, has c oM ((dats m 0 c).before (2 : Fin 3) t0_0 d)))
def bodyPost (c : Dev nD) : PR F :=
  iprop(Φ₁ c ∗ (dats m 0 c).owesAt () t0_0.succ ∗ has c xM (xstg m c) ∗ has c wM (wstg m c) ∗ has c oM (outAt m c))

theorem into (c : Dev nD) : bodyPre' m c ⊢ iprop(∃ K, bodyPre m c K) := by
  unfold bodyPre' Φ₀ start G'
  iintro ⟨⟨⟨⟨%K, Hg⟩, Hr⟩, Hs⟩, HO, ⟨%d0, Hx⟩, ⟨%d1, Hw⟩, ⟨%d2, Ho⟩⟩
  rw [before_0, before_1]
  unfold Dat.owesAt Pipeline.owesWithin
  icases HO with ⟨%W, %hW, HO⟩
  iexists K
  iapply (pre_in m c K)
  isplitl [Hg Hr]
  · isplitl [Hg] <;> iassumption
  isplitl [Hs]; · iexact Hs
  isplitl [HO]; · iexists W; iexact HO
  isplitl [Hx]; · iexact Hx
  isplitl [Hw]; · iexact Hw
  iexists _; iexact Ho

theorem outof (c : Dev nD) (K : Dev nD × CIx → ℕ) :
    St m c K iprop(has c xM (xstg m c) ∗ has c wM (wstg m c) ∗ semVal (barCell c) 0) (fun _ => .done) (fun _ => true) (fun _ => .done) ⊢ bodyPost m c := by
  refine (post_out m c K).trans ?_
  unfold bodyPost
  iintro ⟨HP, ⟨%W, HO⟩, H⟩
  isplitl [HP]; · iexact HP
  isplitl [HO]
  · unfold Dat.owesAt Pipeline.owesWithin
    iexists W
    isplitr
    · ipureintro; exact fun _ _ => Or.inl trivial
    iexact HO
  iexact H

theorem whole_body (c : Dev nD) : bodyPre' m c ⊢ WP c (bodyAt0 t0_0) (fun _ => bodyPost m c) :=
  (into m c).trans (exists_elim fun K => walk m c K t0_0 (outof m c K))

set_option maxRecDepth 100000 in
theorem body_obligation (c : Dev nD) : BodyObligation (dats (F := F) m 0 c) (defs₀ (F := F)) 𝒱₀ () Set.univ := fun t => by
  rw [fin_N0 t]
  rw [bigSep_W0, bigSep_W0]
  show bodyPre' m c ⊢ WP c (bodyAt0 t0_0) (fun _ => bodyPost m c)
  exact whole_body m c

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, HL, HC, -, HG⟩
  ihave HC := (creds (F := F) c) $$ HC
  icases HC with ⟨HB, HV⟩
  imodintro
  unfold start
  isplitl
  · isplitl [HG]; · iexact HG
    isplitl [HB]; · iexact HB
    isplitl [HV] <;> iassumption
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest_eq]
  unfold Φ₀
  iintro ⟨HS, -, HR⟩
  isplitl [HS] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest_eq, unscopedSems0_eq]
  unfold Φ₁ Pipeline.ownSems0
  rw [by_side]
  iintro ⟨HR, HS, HB⟩
  isplitl [HB]; · iexact HB
  isplitl [HS]; · iexact HS
  iexact HR

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N
def QC : PUnit × MemSt nD τ sig (Elt F) → Prop := fun r =>
  ∀ c : Dev nD, ∀ w : Fin cfg0.W, r.2.mem ((cfg0.win w).arr.view.loc (c : Thread nD τ)) = finalA m c w

set_option maxRecDepth 16000 in
/-- From any memory with zero counters every execution terminates, each window's array at its final contents and every
    counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The factors end unchanged. -/
theorem finalA_x (c : Dev nD) : finalA m c (0 : Fin 3) = m ((c : Thread nD τ).loc main_arg0) :=
  (dats (F := F) m 0 c).arrAt_in (0 : Fin 3) rfl _
theorem finalA_w (c : Dev nD) : finalA m c (1 : Fin 3) = m ((c : Thread nD τ).loc main_arg1) :=
  (dats (F := F) m 0 c).arrAt_in (1 : Fin 3) rfl _

end Cert.Cube
-- ==== Proof.Frames.lean ====
/-
# The frames

The run, its contents dropped: the factors end unchanged and every counter ends at zero. The kernel as it is printed and
the kernel read over the reals are one text, so the run over any float values is both.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Cube

open Idealize.ShloMosaic Idealize.ShloMosaic.TcCoe Idealize.SL.Sem

theorem kept {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD) :
    r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1) :=
  ⟨(h c 0).trans (finalA_x m c), (h c 1).trans (finalA_w m c)⟩

theorem frame_ideal : Cert.quiescent_KernelIdeal := fun m ρ _ =>
  (θ_run Cert.KernelIdeal.defs _ _).mono (fun _ h => ⟨kept h.1, h.2⟩) (run_main (F := Ideal) m ρ)

set_option maxRecDepth 100000 in
/-- The two texts' bodies are one. -/
theorem defs₀_eq : Cert.Kernel.defs₀ (F := Bits) = Cert.KernelIdeal.defs₀ (F := Bits) := by
  unfold Cert.Kernel.defs₀ Cert.KernelIdeal.defs₀
  refine congrArg Defs.onTc (funext fun p => funext fun x => ?_)
  match p, x with
  | ⟨0, _⟩, (t, s) => rfl
  | ⟨_ + 1, h⟩, _ => exact absurd h (Nat.not_lt.2 (Nat.le_add_left _ _))
set_option maxRecDepth 100000 in
theorem defs_eq : Cert.Kernel.defs (F := Bits) = Cert.KernelIdeal.defs (F := Bits) :=
  congrArg (Pipeline.defs Cert.KernelIdeal.pcfgs) defs₀_eq

set_option maxRecDepth 100000 in
theorem frame_kernel : Cert.quiescent_Kernel := fun m ρ _ => by
  rw [defs_eq]
  exact (θ_run Cert.KernelIdeal.defs _ _).mono (fun _ h => ⟨kept h.1, h.2⟩) (run_main (F := Bits) m ρ)

end Cert.Cube
-- ==== Proof.Value.lean ====
/-
# The values

The reference's result at an entry, and the two runs side by side.
-/
module

public import proofs.«01_k».proof.Proof.Sum
public import proofs.«01_k».proof.Proof.Frames

@[expose] public section

noncomputable section

namespace Cert.Cube

open Cert.KernelIdeal Cert.KernelIdeal.Gen
open Idealize.ShloMosaic Idealize.ShloMosaic.TcCoe Idealize.SL.Sem

/-- The product of the whole matrices, and the reference's result. -/
theorem dot_apply (x w : FVec Ideal Sq .f32) (j : Sq.Idx) :
    Host.dotGeneral Cert.ReferenceIdeal.dot_S2048x2048_S2048x2048_S2048x2048_1_0_0_1_n_n none x w j = prodAt x w (j 0) (j 1) := by
  unfold prodAt
  pointwise

theorem ref_apply (x w : FVec Ideal Sq .f32) :
    Host.divf (Host.dotGeneral Cert.ReferenceIdeal.dot_S2048x2048_S2048x2048_S2048x2048_1_0_0_1_n_n none x w)
      (addf (broadcastInDim Cert.ReferenceIdeal.S2048x2048 ![] Cert.ReferenceIdeal.Gen.bcast_S_S2048x2048 (constant Cert.ReferenceIdeal.S_ .f32 0x3F800000#32))
        (Host.exp (Host.negf (Host.dotGeneral Cert.ReferenceIdeal.dot_S2048x2048_S2048x2048_S2048x2048_1_0_0_1_n_n none x w))))
      = fun j => silu (prodAt x w (j 0) (j 1)) := by
  funext j
  rw [← dot_apply]
  generalize Host.dotGeneral (F := Ideal) Cert.ReferenceIdeal.dot_S2048x2048_S2048x2048_S2048x2048_1_0_0_1_n_n none x w = y
  unfold silu
  pointwise

variable (m : (ℓ : Loc nD τ sig) → Buf (Elt Ideal) ℓ) (c : Dev nD)

/-- What is staged is the argument, and rounding changes nothing. -/
theorem xb_eq : xb m c = m ((c : Thread nD τ).loc main_arg0) := by
  have hz : (fun a => (win0_0.index (0 : Fin 1)) a * main_arg0.ty.shape.size a) = fun _ => 0 := funext fun a => by fin_cases a <;> decide
  have h : xstg m c = m ((c : Thread nD τ).loc main_arg0) :=
    Memref.read_access_unit_zero (Elt Ideal) main_arg0 hz (fun a => by fin_cases a <;> decide) _
  unfold xb
  rw [h]
  funext j
  unfold_payloads
  pointwise
theorem wb_eq : wb m c = m ((c : Thread nD τ).loc main_arg1) := by
  have hz : (fun a => (win0_1.index (0 : Fin 1)) a * main_arg1.ty.shape.size a) = fun _ => 0 := funext fun a => by fin_cases a <;> decide
  have h : wstg m c = m ((c : Thread nD τ).loc main_arg1) :=
    Memref.read_access_unit_zero (Elt Ideal) main_arg1 hz (fun a => by fin_cases a <;> decide) _
  unfold wb
  rw [h]
  funext j
  unfold_payloads
  pointwise

/-- The result's array ends holding the block. -/
theorem finalA_o : finalA m c (2 : Fin 3) = outAt m c := by
  have hz : (fun a => (win0_2.index (0 : Fin 1)) a * main_v1.ty.shape.size a) = fun _ => 0 := funext fun a => by fin_cases a <;> decide
  have h : (win0_2.blk (0 : Fin 1)).view.read (Elt Ideal) (finalA m c (2 : Fin 3)) = outAt m c := by
    unfold finalA
    rw [show cfg0.N = ((0 : Fin 1) : Fin cfg0.N).val + 1 from rfl, (dats m 0 c).arrAt_succ (2 : Fin 3) (0 : Fin 1),
      show (cfg0.win (2 : Fin 3)).flush (0 : Fin 1) = true from by decide, if_pos rfl]
    exact View.read_write_univ _ _
  exact (Memref.read_access_unit_zero (Elt Ideal) main_v1 hz (fun a => by fin_cases a <;> decide) _).symm.trans h

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run defs _ _).mono (fun _ h c => ⟨((h.1 c (2 : Fin 3)).trans (finalA_o m c)).trans ?_, kept h.1 c⟩) (run_main (F := Ideal) m ρ)
  rw [ref_apply]
  exact outAt_prod c (fun d => (xb_eq m d).trans (hagree d).1) (fun d => (wb_eq m d).trans (hagree d).2) _

end Cert.Cube
-- ==== Proof.Clip.lean ====
/-
# The clip

Where, on every device, the products of the magnitudes of its blocks are at most `60 / 8`, the whole product lies between `-60`
and `60`, and clipping it there changes nothing. So under that condition the kernel computes the reference with the clip.
-/
module

public import proofs.«01_k».proof.Proof.Value
public import proofs.«01_k».proof.Proof.Gen.ClippedIdeal
public import proofs.«01_k».proof.Proof.Gen.ClippedIdeal.Run
public import proofs.«01_k».proof.Proof.Gen.Pre_products_bounded_KernelIdeal
public import proofs.«01_k».proof.Proof.Gen.Pre_products_bounded_ClippedIdeal
public import Idealize.ShloMosaic.Lib.ReduceAll

@[expose] public section

noncomputable section

namespace Cert.Cube

open Cert.KernelIdeal Cert.KernelIdeal.Gen
open Idealize.ShloMosaic Idealize.ShloMosaic.TcCoe Idealize.SL.Sem

/-! ## Magnitudes -/

/-- The magnitude of an extended real. -/
def mag (a : EReal) : EReal := max a (-a)

theorem mag_coe (r : ℝ) : mag (r : EReal) = ((|r| : ℝ) : EReal) := by
  unfold mag; rw [← EReal.coe_neg, abs_eq_max_neg]; exact (EReal.coe_strictMono.monotone.map_max).symm
theorem mag_abs (a : EReal) : mag a = ((a.abs : ENNReal) : EReal) := by
  induction a with
  | bot => simp [mag]
  | top => simp [mag]
  | coe r => rw [EReal.coe_abs, mag_coe]
theorem mag_mul (a b : EReal) : mag (a * b) = mag a * mag b := by
  rw [mag_abs, mag_abs, mag_abs, EReal.abs_mul, EReal.coe_ennreal_mul]
theorem mag_nonneg (a : EReal) : 0 ≤ mag a := by rw [mag_abs]; exact EReal.coe_ennreal_nonneg _

/-- A sum lies between the bounds of the sum of the magnitudes. -/
theorem sum_between {n : ℕ} (f : Fin n → EReal) (B : ℝ) (h : ∑ k, mag (f k) ≤ (B : EReal)) : ((-B : ℝ) : EReal) ≤ ∑ k, f k ∧ ∑ k, f k ≤ (B : EReal) := by
  refine ⟨?_, (Finset.sum_le_sum fun k _ => le_max_left _ _).trans h⟩
  have hk (k : Fin n) : mag (f k) ≤ (B : EReal) := (Finset.single_le_sum (fun j _ => mag_nonneg (f j)) (Finset.mem_univ k)).trans h
  have hr (k : Fin n) : ∃ r : ℝ, f k = (r : EReal) := by
    have h1 : f k ≠ ⊤ := fun e => by
      have := hk k; rw [e] at this; exact absurd (le_trans (le_max_left _ _) this) (not_le.mpr (EReal.coe_lt_top B))
    have h2 : f k ≠ ⊥ := fun e => by
      have := hk k; rw [e] at this; exact absurd (le_trans (le_max_right _ _) this) (not_le.mpr (by rw [EReal.neg_bot]; exact EReal.coe_lt_top B))
    exact ⟨(f k).toReal, (EReal.coe_toReal h1 h2).symm⟩
  choose r hr using hr
  have hs (g : Fin n → ℝ) : (∑ k, (g k : EReal)) = ((∑ k, g k : ℝ) : EReal) :=
    (map_sum (⟨⟨Real.toEReal, rfl⟩, EReal.coe_add⟩ : ℝ →+ EReal) g Finset.univ).symm
  have h' : (∑ k, |r k|) ≤ B := by
    rw [← EReal.coe_le_coe_iff, ← hs]
    refine le_trans (le_of_eq (Finset.sum_congr rfl fun k _ => ?_)) h
    rw [hr k, mag_coe]
  rw [Finset.sum_congr rfl fun k _ => hr k, hs, EReal.coe_le_coe_iff]
  have := (Finset.abs_sum_le_sum_abs r Finset.univ).trans h'
  linarith [neg_abs_le (∑ k, r k)]

/-! ## The bound -/

theorem lit_60 : Ideal.ofBits .f32 0x42700000#32 = ((60 : ℝ) : EReal) := by
  simp [Ideal.ofBits, Ideal.ieee, -EReal.coe_mul]; norm_num
theorem lit_neg_60 : Ideal.ofBits .f32 0xC2700000#32 = ((-60 : ℝ) : EReal) := by
  simp [Ideal.ofBits, Ideal.ieee, -EReal.coe_mul, -EReal.coe_neg]; norm_num
theorem lit_75 : Ideal.ofBits .f32 0x40F00000#32 = ((15 / 2 : ℝ) : EReal) := by
  simp [Ideal.ofBits, Ideal.ieee, -EReal.coe_mul]; norm_num

variable {x w : Sq.Idx → EReal} {hX : Layout.Tiles S2048x256 Sq 1 8} {hW : Layout.Tiles S256x2048 Sq 0 8}

theorem ofBool_true {b : Bool} (h : BitVec.ofBool b = 1#1) : b = true := by revert b; decide

/-- What the precondition says of device `d`'s blocks, at an entry. -/
theorem bounded_at (d : Dev nD)
    (h : Cert.Pre_products_bounded_KernelIdeal.fn (F := Ideal) (Layout.block S2048x256 Sq 1 8 d x hX) (Layout.block S256x2048 Sq 0 8 d w hW) = fun _ => 1#1)
    (r l : Fin 2048) :
    ∑ k : Fin 256, mag (x (ix2 r ⟨d.val * 256 + k.val, row_lt d k⟩)) * mag (w (ix2 ⟨d.val * 256 + k.val, row_lt d k⟩ l)) ≤ ((15 / 2 : ℝ) : EReal) := by
  have e := congrFun h (fun a => a.elim0)
  dsimp only [Cert.Pre_products_bounded_KernelIdeal.fn] at e
  haveI : Subsingleton Cert.Pre_products_bounded_KernelIdeal.S_.Idx := ⟨fun a b => funext fun k => k.elim0⟩
  have e := Host.reduce_andi_all _ _ _ _ _ e (ix2 r l)
  have e' : BitVec.ofBool (decide ((∑ k : Fin 256, max (Layout.block S2048x256 Sq 1 8 d x hX (ix2 r k)) (-(Layout.block S2048x256 Sq 1 8 d x hX (ix2 r k)))
      * max (Layout.block S256x2048 Sq 0 8 d w hW (ix2 k l)) (-(Layout.block S256x2048 Sq 0 8 d w hW (ix2 k l)))) ≤ Ideal.ofBits .f32 0x40F00000#32)) = 1#1 := by
    rw [← e]
    symm
    pointwise
    rfl
  rw [lit_75] at e'
  have e'' := of_decide_eq_true (ofBool_true e')
  refine le_trans (le_of_eq (Finset.sum_congr rfl fun k _ => ?_)) e''
  unfold mag
  have e1 : hX.idx d (ix2 r k) = ix2 r ⟨d.val * 256 + k.val, row_lt d k⟩ := funext fun a => Fin.ext (by match a with | 0 => rfl | 1 => rfl)
  have e2 : hW.idx d (ix2 k l) = ix2 ⟨d.val * 256 + k.val, row_lt d k⟩ l := funext fun a => Fin.ext (by match a with | 0 => rfl | 1 => rfl)
  rw [Layout.block_apply, Layout.block_apply, e1, e2]

/-- The whole product lies between `-60` and `60`. -/
theorem prod_between
    (h : ∀ d, Cert.Pre_products_bounded_KernelIdeal.fn (F := Ideal) (Layout.block S2048x256 Sq 1 8 d x hX) (Layout.block S256x2048 Sq 0 8 d w hW) = fun _ => 1#1)
    (r l : Fin 2048) : ((-60 : ℝ) : EReal) ≤ prodAt x w r l ∧ prodAt x w r l ≤ ((60 : ℝ) : EReal) := by
  have hd (d : Fin 8) := sum_between (fun k : Fin 256 => x (ix2 r ⟨d.val * 256 + k.val, row_lt d k⟩) * w (ix2 ⟨d.val * 256 + k.val, row_lt d k⟩ l)) (15 / 2)
    (le_trans (le_of_eq (Finset.sum_congr rfl fun k _ => mag_mul _ _)) (bounded_at d (h d) r l))
  have hc (b : ℝ) : ∑ _d : Fin 8, (b : EReal) = ((8 * b : ℝ) : EReal) := by
    rw [Fin.sum_univ_eight]; norm_cast; ring
  unfold prodAt
  rw [← sum_blocks]
  constructor
  · refine le_trans (le_of_eq ?_) (Finset.sum_le_sum fun d _ => (hd d).1)
    rw [hc]; norm_num
  · refine (Finset.sum_le_sum fun d _ => (hd d).2).trans (le_of_eq ?_)
    rw [hc]; norm_num

/-- The clipped reference's result, where the clip is idle. -/
theorem clipped_apply (x w : FVec Ideal Sq .f32)
    (h : ∀ r l, ((-60 : ℝ) : EReal) ≤ prodAt x w r l ∧ prodAt x w r l ≤ ((60 : ℝ) : EReal)) :
    Host.divf (Host.dotGeneral Cert.ClippedIdeal.dot_S2048x2048_S2048x2048_S2048x2048_1_0_0_1_n_n none x w)
      (addf (broadcastInDim Cert.ClippedIdeal.S2048x2048 ![] Cert.ClippedIdeal.Gen.bcast_S_S2048x2048 (constant Cert.ClippedIdeal.S_ .f32 0x3F800000#32))
        (Host.exp (Host.negf (minimumf (broadcastInDim Cert.ClippedIdeal.S2048x2048 ![] Cert.ClippedIdeal.Gen.bcast_S_S2048x2048 (id (constant Cert.ClippedIdeal.S_ .f32 0x42700000#32)))
          (maximumf (broadcastInDim Cert.ClippedIdeal.S2048x2048 ![] Cert.ClippedIdeal.Gen.bcast_S_S2048x2048 (id (constant Cert.ClippedIdeal.S_ .f32 0xC2700000#32)))
            (Host.dotGeneral Cert.ClippedIdeal.dot_S2048x2048_S2048x2048_S2048x2048_1_0_0_1_n_n none x w))))))
      = fun j => silu (prodAt x w (j 0) (j 1)) := by
  have hdot : Host.dotGeneral Cert.ClippedIdeal.dot_S2048x2048_S2048x2048_S2048x2048_1_0_0_1_n_n none x w = fun j => prodAt x w (j 0) (j 1) := by
    funext j; unfold prodAt; pointwise
  rw [hdot]
  funext j
  have hj := h (j 0) (j 1)
  have e : silu (prodAt x w (j 0) (j 1))
      = Ideal.div (prodAt x w (j 0) (j 1)) (1 + Ideal.exp (-(min (Ideal.ofBits .f32 0x42700000#32) (max (Ideal.ofBits .f32 0xC2700000#32) (prodAt x w (j 0) (j 1)))))) := by
    rw [lit_60, lit_neg_60, max_eq_right hj.1, min_eq_right hj.2]; rfl
  rw [e]
  pointwise
  rfl

/-! ## The claims -/

theorem frame_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

theorem algebraic_clipped : Cert.algebraic_KernelIdeal_ClippedIdeal_pre_products_bounded_KernelIdeal := by
  intro m ρ m' ρ' hpre hagree
  refine ⟨_, ?_, (θ_run Cert.ClippedIdeal.defs _ _).mono (fun _ h => h 0) (Cert.ClippedIdeal.Value.run (F := Ideal) m' ρ')⟩
  refine (θ_run defs _ _).mono (fun _ h c => ⟨((h.1 c (2 : Fin 3)).trans (finalA_o m c)).trans ?_, kept h.1 c⟩) (run_main (F := Ideal) m ρ)
  have hb := fun d => hpre d
  simp only [(hagree _).1, (hagree _).2] at hb
  rw [clipped_apply _ _ (prod_between hb)]
  exact outAt_prod c (fun d => (xb_eq m d).trans (hagree d).1) (fun d => (wb_eq m d).trans (hagree d).2) _

end Cert.Cube
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_products_bounded_KernelIdeal
public import proofs.«01_k».proof.Proof.Gen.Pre_products_bounded_ClippedIdeal
public import proofs.«01_k».proof.Proof.Clip
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.ClippedIdeal.Gen.facts,
  Cert.Pre_products_bounded_KernelIdeal.Gen.facts, Cert.Pre_products_bounded_ClippedIdeal.Gen.facts,
  Cert.Cube.frame_kernel, Cert.Cube.frame_ideal, fun m ρ _ => Cert.Cube.frame_ideal m ρ trivial, Cert.Cube.frame_ref,
  Cert.Cube.frame_clipped, fun m ρ _ => Cert.Cube.frame_clipped m ρ trivial, trivial, Cert.Cube.algebraic, Cert.Cube.algebraic_clipped⟩

end Cert.Proof

end
